-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![16384, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S15x1x512 : Shape := ⟨3, ![15, 1, 512]⟩
abbrev S15 : Shape := ⟨1, ![15]⟩
abbrev S_ : Shape := ⟨0, ![]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1023x512 : Shape := ⟨2, ![1023, 512]⟩
abbrev S1022x512 : Shape := ⟨2, ![1022, 512]⟩
abbrev S1020x512 : Shape := ⟨2, ![1020, 512]⟩
abbrev S1016x512 : Shape := ⟨2, ![1016, 512]⟩
abbrev S1008x512 : Shape := ⟨2, ![1008, 512]⟩
abbrev S992x512 : Shape := ⟨2, ![992, 512]⟩
abbrev S1 : Shape := ⟨1, ![1]⟩
abbrev S1x1x512 : Shape := ⟨3, ![1, 1, 512]⟩
abbrev S960x512 : Shape := ⟨2, ![960, 512]⟩
abbrev S896x512 : Shape := ⟨2, ![896, 512]⟩
abbrev S768x512 : Shape := ⟨2, ![768, 512]⟩
abbrev S15x512 : Shape := ⟨2, ![15, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S15x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .sge v2 c15_i32
  let v5 : BitVec 32 := Scalar.extui v4
  let c0_i32 : BitVec 32 := 0#32
  let v6 : BitVec 1 := Scalar.cmpi .ne v5 c0_i32
  v6

def k0_dev1 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_157 : BitVec 32 := 15#32
  let v316 : BitVec 32 := Scalar.subi v2 c15_i32_157
  let c1_i32_159 : BitVec 32 := 1#32
  let v317 : BitVec 32 := Scalar.muli v316 c1_i32_159
  let v318 : BitVec 32 := Scalar.addi c0_i32_160 v317
  v318.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v7 : BitVec 1 := Scalar.cmpi .sge v2 c14_i32
  let v8 : BitVec 32 := Scalar.extui v7
  let c0_i32_0 : BitVec 32 := 0#32
  let v9 : BitVec 1 := Scalar.cmpi .ne v8 c0_i32_0
  v9

def k0_dev2 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_157 : BitVec 32 := 14#32
  let v316 : BitVec 32 := Scalar.subi v2 c14_i32_157
  let c1_i32_159 : BitVec 32 := 1#32
  let v317 : BitVec 32 := Scalar.muli v316 c1_i32_159
  let v318 : BitVec 32 := Scalar.addi c0_i32_160 v317
  v318.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v10 : BitVec 1 := Scalar.cmpi .sge v2 c13_i32
  let v11 : BitVec 32 := Scalar.extui v10
  let c0_i32_1 : BitVec 32 := 0#32
  let v12 : BitVec 1 := Scalar.cmpi .ne v11 c0_i32_1
  v12

def k0_dev3 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_157 : BitVec 32 := 13#32
  let v316 : BitVec 32 := Scalar.subi v2 c13_i32_157
  let c1_i32_159 : BitVec 32 := 1#32
  let v317 : BitVec 32 := Scalar.muli v316 c1_i32_159
  let v318 : BitVec 32 := Scalar.addi c0_i32_160 v317
  v318.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 1 := Scalar.cmpi .sge v2 c12_i32
  let v14 : BitVec 32 := Scalar.extui v13
  let c0_i32_2 : BitVec 32 := 0#32
  let v15 : BitVec 1 := Scalar.cmpi .ne v14 c0_i32_2
  v15

def k0_dev4 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_157 : BitVec 32 := 12#32
  let v316 : BitVec 32 := Scalar.subi v2 c12_i32_157
  let c1_i32_159 : BitVec 32 := 1#32
  let v317 : BitVec 32 := Scalar.muli v316 c1_i32_159
  let v318 : BitVec 32 := Scalar.addi c0_i32_160 v317
  v318.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v16 : BitVec 1 := Scalar.cmpi .sge v2 c11_i32
  let v17 : BitVec 32 := Scalar.extui v16
  let c0_i32_3 : BitVec 32 := 0#32
  let v18 : BitVec 1 := Scalar.cmpi .ne v17 c0_i32_3
  v18

def k0_dev5 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_157 : BitVec 32 := 11#32
  let v316 : BitVec 32 := Scalar.subi v2 c11_i32_157
  let c1_i32_159 : BitVec 32 := 1#32
  let v317 : BitVec 32 := Scalar.muli v316 c1_i32_159
  let v318 : BitVec 32 := Scalar.addi c0_i32_160 v317
  v318.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v19 : BitVec 1 := Scalar.cmpi .sge v2 c10_i32
  let v20 : BitVec 32 := Scalar.extui v19
  let c0_i32_4 : BitVec 32 := 0#32
  let v21 : BitVec 1 := Scalar.cmpi .ne v20 c0_i32_4
  v21

def k0_dev6 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_157 : BitVec 32 := 10#32
  let v316 : BitVec 32 := Scalar.subi v2 c10_i32_157
  let c1_i32_159 : BitVec 32 := 1#32
  let v317 : BitVec 32 := Scalar.muli v316 c1_i32_159
  let v318 : BitVec 32 := Scalar.addi c0_i32_160 v317
  v318.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v22 : BitVec 1 := Scalar.cmpi .sge v2 c9_i32
  let v23 : BitVec 32 := Scalar.extui v22
  let c0_i32_5 : BitVec 32 := 0#32
  let v24 : BitVec 1 := Scalar.cmpi .ne v23 c0_i32_5
  v24

def k0_dev7 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_157 : BitVec 32 := 9#32
  let v316 : BitVec 32 := Scalar.subi v2 c9_i32_157
  let c1_i32_159 : BitVec 32 := 1#32
  let v317 : BitVec 32 := Scalar.muli v316 c1_i32_159
  let v318 : BitVec 32 := Scalar.addi c0_i32_160 v317
  v318.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v25 : BitVec 1 := Scalar.cmpi .sge v2 c8_i32
  let v26 : BitVec 32 := Scalar.extui v25
  let c0_i32_6 : BitVec 32 := 0#32
  let v27 : BitVec 1 := Scalar.cmpi .ne v26 c0_i32_6
  v27

def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_157 : BitVec 32 := 8#32
  let v316 : BitVec 32 := Scalar.subi v2 c8_i32_157
  let c1_i32_159 : BitVec 32 := 1#32
  let v317 : BitVec 32 := Scalar.muli v316 c1_i32_159
  let v318 : BitVec 32 := Scalar.addi c0_i32_160 v317
  v318.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 1 := Scalar.cmpi .sge v2 c7_i32
  let v29 : BitVec 32 := Scalar.extui v28
  let c0_i32_7 : BitVec 32 := 0#32
  let v30 : BitVec 1 := Scalar.cmpi .ne v29 c0_i32_7
  v30

def k0_dev9 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_157 : BitVec 32 := 7#32
  let v316 : BitVec 32 := Scalar.subi v2 c7_i32_157
  let c1_i32_159 : BitVec 32 := 1#32
  let v317 : BitVec 32 := Scalar.muli v316 c1_i32_159
  let v318 : BitVec 32 := Scalar.addi c0_i32_160 v317
  v318.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v31 : BitVec 1 := Scalar.cmpi .sge v2 c6_i32
  let v32 : BitVec 32 := Scalar.extui v31
  let c0_i32_8 : BitVec 32 := 0#32
  let v33 : BitVec 1 := Scalar.cmpi .ne v32 c0_i32_8
  v33

def k0_dev10 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_157 : BitVec 32 := 6#32
  let v316 : BitVec 32 := Scalar.subi v2 c6_i32_157
  let c1_i32_159 : BitVec 32 := 1#32
  let v317 : BitVec 32 := Scalar.muli v316 c1_i32_159
  let v318 : BitVec 32 := Scalar.addi c0_i32_160 v317
  v318.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v34 : BitVec 1 := Scalar.cmpi .sge v2 c5_i32
  let v35 : BitVec 32 := Scalar.extui v34
  let c0_i32_9 : BitVec 32 := 0#32
  let v36 : BitVec 1 := Scalar.cmpi .ne v35 c0_i32_9
  v36

def k0_dev11 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_157 : BitVec 32 := 5#32
  let v316 : BitVec 32 := Scalar.subi v2 c5_i32_157
  let c1_i32_159 : BitVec 32 := 1#32
  let v317 : BitVec 32 := Scalar.muli v316 c1_i32_159
  let v318 : BitVec 32 := Scalar.addi c0_i32_160 v317
  v318.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v37 : BitVec 1 := Scalar.cmpi .sge v2 c4_i32
  let v38 : BitVec 32 := Scalar.extui v37
  let c0_i32_10 : BitVec 32 := 0#32
  let v39 : BitVec 1 := Scalar.cmpi .ne v38 c0_i32_10
  v39

def k0_dev12 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_157 : BitVec 32 := 4#32
  let v316 : BitVec 32 := Scalar.subi v2 c4_i32_157
  let c1_i32_159 : BitVec 32 := 1#32
  let v317 : BitVec 32 := Scalar.muli v316 c1_i32_159
  let v318 : BitVec 32 := Scalar.addi c0_i32_160 v317
  v318.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v40 : BitVec 1 := Scalar.cmpi .sge v2 c3_i32
  let v41 : BitVec 32 := Scalar.extui v40
  let c0_i32_11 : BitVec 32 := 0#32
  let v42 : BitVec 1 := Scalar.cmpi .ne v41 c0_i32_11
  v42

def k0_dev13 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_157 : BitVec 32 := 3#32
  let v316 : BitVec 32 := Scalar.subi v2 c3_i32_157
  let c1_i32_159 : BitVec 32 := 1#32
  let v317 : BitVec 32 := Scalar.muli v316 c1_i32_159
  let v318 : BitVec 32 := Scalar.addi c0_i32_160 v317
  v318.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v43 : BitVec 1 := Scalar.cmpi .sge v2 c2_i32
  let v44 : BitVec 32 := Scalar.extui v43
  let c0_i32_12 : BitVec 32 := 0#32
  let v45 : BitVec 1 := Scalar.cmpi .ne v44 c0_i32_12
  v45

def k0_dev14 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_157 : BitVec 32 := 2#32
  let v316 : BitVec 32 := Scalar.subi v2 c2_i32_157
  let c1_i32_159 : BitVec 32 := 1#32
  let v317 : BitVec 32 := Scalar.muli v316 c1_i32_159
  let v318 : BitVec 32 := Scalar.addi c0_i32_160 v317
  v318.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v46 : BitVec 1 := Scalar.cmpi .sge v2 c1_i32_13
  let v47 : BitVec 32 := Scalar.extui v46
  let c0_i32_14 : BitVec 32 := 0#32
  let v48 : BitVec 1 := Scalar.cmpi .ne v47 c0_i32_14
  v48

def k0_dev15 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_157 : BitVec 32 := 1#32
  let v316 : BitVec 32 := Scalar.subi v2 c1_i32_157
  let c1_i32_159 : BitVec 32 := 1#32
  let v317 : BitVec 32 := Scalar.muli v316 c1_i32_159
  let v318 : BitVec 32 := Scalar.addi c0_i32_160 v317
  v318.toNat
def k0_amt1 (d0 : Dev nD) : BitVec 32 :=
  let c15_i32_25 : BitVec 32 := 15#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v110 : BitVec 32 := Scalar.subi c15_i32_25 v2
  v110

def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_26 : BitVec 32 := 15#32
  let v111 : BitVec 32 := Scalar.addi v2 c15_i32_26
  let c16_i32_27 : BitVec 32 := 16#32
  let v112 : BitVec 1 := Scalar.cmpi .slt v111 c16_i32_27
  let v113 : BitVec 32 := Scalar.extui v112
  let c0_i32_28 : BitVec 32 := 0#32
  let v114 : BitVec 1 := Scalar.cmpi .ne v113 c0_i32_28
  v114

def k0_dev16 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_157 : BitVec 32 := 15#32
  let v316 : BitVec 32 := Scalar.addi v2 c15_i32_157
  let c1_i32_161 : BitVec 32 := 1#32
  let v317 : BitVec 32 := Scalar.muli v316 c1_i32_161
  let v318 : BitVec 32 := Scalar.addi c0_i32_162 v317
  v318.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_29 : BitVec 32 := 14#32
  let v115 : BitVec 32 := Scalar.addi v2 c14_i32_29
  let c16_i32_30 : BitVec 32 := 16#32
  let v116 : BitVec 1 := Scalar.cmpi .slt v115 c16_i32_30
  let v117 : BitVec 32 := Scalar.extui v116
  let c0_i32_31 : BitVec 32 := 0#32
  let v118 : BitVec 1 := Scalar.cmpi .ne v117 c0_i32_31
  v118

def k0_dev17 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_157 : BitVec 32 := 14#32
  let v316 : BitVec 32 := Scalar.addi v2 c14_i32_157
  let c1_i32_161 : BitVec 32 := 1#32
  let v317 : BitVec 32 := Scalar.muli v316 c1_i32_161
  let v318 : BitVec 32 := Scalar.addi c0_i32_162 v317
  v318.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_32 : BitVec 32 := 13#32
  let v119 : BitVec 32 := Scalar.addi v2 c13_i32_32
  let c16_i32_33 : BitVec 32 := 16#32
  let v120 : BitVec 1 := Scalar.cmpi .slt v119 c16_i32_33
  let v121 : BitVec 32 := Scalar.extui v120
  let c0_i32_34 : BitVec 32 := 0#32
  let v122 : BitVec 1 := Scalar.cmpi .ne v121 c0_i32_34
  v122

def k0_dev18 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_157 : BitVec 32 := 13#32
  let v316 : BitVec 32 := Scalar.addi v2 c13_i32_157
  let c1_i32_161 : BitVec 32 := 1#32
  let v317 : BitVec 32 := Scalar.muli v316 c1_i32_161
  let v318 : BitVec 32 := Scalar.addi c0_i32_162 v317
  v318.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_35 : BitVec 32 := 12#32
  let v123 : BitVec 32 := Scalar.addi v2 c12_i32_35
  let c16_i32_36 : BitVec 32 := 16#32
  let v124 : BitVec 1 := Scalar.cmpi .slt v123 c16_i32_36
  let v125 : BitVec 32 := Scalar.extui v124
  let c0_i32_37 : BitVec 32 := 0#32
  let v126 : BitVec 1 := Scalar.cmpi .ne v125 c0_i32_37
  v126

def k0_dev19 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_157 : BitVec 32 := 12#32
  let v316 : BitVec 32 := Scalar.addi v2 c12_i32_157
  let c1_i32_161 : BitVec 32 := 1#32
  let v317 : BitVec 32 := Scalar.muli v316 c1_i32_161
  let v318 : BitVec 32 := Scalar.addi c0_i32_162 v317
  v318.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_38 : BitVec 32 := 11#32
  let v127 : BitVec 32 := Scalar.addi v2 c11_i32_38
  let c16_i32_39 : BitVec 32 := 16#32
  let v128 : BitVec 1 := Scalar.cmpi .slt v127 c16_i32_39
  let v129 : BitVec 32 := Scalar.extui v128
  let c0_i32_40 : BitVec 32 := 0#32
  let v130 : BitVec 1 := Scalar.cmpi .ne v129 c0_i32_40
  v130

def k0_dev20 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_157 : BitVec 32 := 11#32
  let v316 : BitVec 32 := Scalar.addi v2 c11_i32_157
  let c1_i32_161 : BitVec 32 := 1#32
  let v317 : BitVec 32 := Scalar.muli v316 c1_i32_161
  let v318 : BitVec 32 := Scalar.addi c0_i32_162 v317
  v318.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_41 : BitVec 32 := 10#32
  let v131 : BitVec 32 := Scalar.addi v2 c10_i32_41
  let c16_i32_42 : BitVec 32 := 16#32
  let v132 : BitVec 1 := Scalar.cmpi .slt v131 c16_i32_42
  let v133 : BitVec 32 := Scalar.extui v132
  let c0_i32_43 : BitVec 32 := 0#32
  let v134 : BitVec 1 := Scalar.cmpi .ne v133 c0_i32_43
  v134

def k0_dev21 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_157 : BitVec 32 := 10#32
  let v316 : BitVec 32 := Scalar.addi v2 c10_i32_157
  let c1_i32_161 : BitVec 32 := 1#32
  let v317 : BitVec 32 := Scalar.muli v316 c1_i32_161
  let v318 : BitVec 32 := Scalar.addi c0_i32_162 v317
  v318.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_44 : BitVec 32 := 9#32
  let v135 : BitVec 32 := Scalar.addi v2 c9_i32_44
  let c16_i32_45 : BitVec 32 := 16#32
  let v136 : BitVec 1 := Scalar.cmpi .slt v135 c16_i32_45
  let v137 : BitVec 32 := Scalar.extui v136
  let c0_i32_46 : BitVec 32 := 0#32
  let v138 : BitVec 1 := Scalar.cmpi .ne v137 c0_i32_46
  v138

def k0_dev22 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_157 : BitVec 32 := 9#32
  let v316 : BitVec 32 := Scalar.addi v2 c9_i32_157
  let c1_i32_161 : BitVec 32 := 1#32
  let v317 : BitVec 32 := Scalar.muli v316 c1_i32_161
  let v318 : BitVec 32 := Scalar.addi c0_i32_162 v317
  v318.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_47 : BitVec 32 := 8#32
  let v139 : BitVec 32 := Scalar.addi v2 c8_i32_47
  let c16_i32_48 : BitVec 32 := 16#32
  let v140 : BitVec 1 := Scalar.cmpi .slt v139 c16_i32_48
  let v141 : BitVec 32 := Scalar.extui v140
  let c0_i32_49 : BitVec 32 := 0#32
  let v142 : BitVec 1 := Scalar.cmpi .ne v141 c0_i32_49
  v142

def k0_dev23 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_157 : BitVec 32 := 8#32
  let v316 : BitVec 32 := Scalar.addi v2 c8_i32_157
  let c1_i32_161 : BitVec 32 := 1#32
  let v317 : BitVec 32 := Scalar.muli v316 c1_i32_161
  let v318 : BitVec 32 := Scalar.addi c0_i32_162 v317
  v318.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_50 : BitVec 32 := 7#32
  let v143 : BitVec 32 := Scalar.addi v2 c7_i32_50
  let c16_i32_51 : BitVec 32 := 16#32
  let v144 : BitVec 1 := Scalar.cmpi .slt v143 c16_i32_51
  let v145 : BitVec 32 := Scalar.extui v144
  let c0_i32_52 : BitVec 32 := 0#32
  let v146 : BitVec 1 := Scalar.cmpi .ne v145 c0_i32_52
  v146

def k0_dev24 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_157 : BitVec 32 := 7#32
  let v316 : BitVec 32 := Scalar.addi v2 c7_i32_157
  let c1_i32_161 : BitVec 32 := 1#32
  let v317 : BitVec 32 := Scalar.muli v316 c1_i32_161
  let v318 : BitVec 32 := Scalar.addi c0_i32_162 v317
  v318.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_53 : BitVec 32 := 6#32
  let v147 : BitVec 32 := Scalar.addi v2 c6_i32_53
  let c16_i32_54 : BitVec 32 := 16#32
  let v148 : BitVec 1 := Scalar.cmpi .slt v147 c16_i32_54
  let v149 : BitVec 32 := Scalar.extui v148
  let c0_i32_55 : BitVec 32 := 0#32
  let v150 : BitVec 1 := Scalar.cmpi .ne v149 c0_i32_55
  v150

def k0_dev25 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_157 : BitVec 32 := 6#32
  let v316 : BitVec 32 := Scalar.addi v2 c6_i32_157
  let c1_i32_161 : BitVec 32 := 1#32
  let v317 : BitVec 32 := Scalar.muli v316 c1_i32_161
  let v318 : BitVec 32 := Scalar.addi c0_i32_162 v317
  v318.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_56 : BitVec 32 := 5#32
  let v151 : BitVec 32 := Scalar.addi v2 c5_i32_56
  let c16_i32_57 : BitVec 32 := 16#32
  let v152 : BitVec 1 := Scalar.cmpi .slt v151 c16_i32_57
  let v153 : BitVec 32 := Scalar.extui v152
  let c0_i32_58 : BitVec 32 := 0#32
  let v154 : BitVec 1 := Scalar.cmpi .ne v153 c0_i32_58
  v154

def k0_dev26 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_157 : BitVec 32 := 5#32
  let v316 : BitVec 32 := Scalar.addi v2 c5_i32_157
  let c1_i32_161 : BitVec 32 := 1#32
  let v317 : BitVec 32 := Scalar.muli v316 c1_i32_161
  let v318 : BitVec 32 := Scalar.addi c0_i32_162 v317
  v318.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_59 : BitVec 32 := 4#32
  let v155 : BitVec 32 := Scalar.addi v2 c4_i32_59
  let c16_i32_60 : BitVec 32 := 16#32
  let v156 : BitVec 1 := Scalar.cmpi .slt v155 c16_i32_60
  let v157 : BitVec 32 := Scalar.extui v156
  let c0_i32_61 : BitVec 32 := 0#32
  let v158 : BitVec 1 := Scalar.cmpi .ne v157 c0_i32_61
  v158

def k0_dev27 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_157 : BitVec 32 := 4#32
  let v316 : BitVec 32 := Scalar.addi v2 c4_i32_157
  let c1_i32_161 : BitVec 32 := 1#32
  let v317 : BitVec 32 := Scalar.muli v316 c1_i32_161
  let v318 : BitVec 32 := Scalar.addi c0_i32_162 v317
  v318.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_62 : BitVec 32 := 3#32
  let v159 : BitVec 32 := Scalar.addi v2 c3_i32_62
  let c16_i32_63 : BitVec 32 := 16#32
  let v160 : BitVec 1 := Scalar.cmpi .slt v159 c16_i32_63
  let v161 : BitVec 32 := Scalar.extui v160
  let c0_i32_64 : BitVec 32 := 0#32
  let v162 : BitVec 1 := Scalar.cmpi .ne v161 c0_i32_64
  v162

def k0_dev28 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_157 : BitVec 32 := 3#32
  let v316 : BitVec 32 := Scalar.addi v2 c3_i32_157
  let c1_i32_161 : BitVec 32 := 1#32
  let v317 : BitVec 32 := Scalar.muli v316 c1_i32_161
  let v318 : BitVec 32 := Scalar.addi c0_i32_162 v317
  v318.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_65 : BitVec 32 := 2#32
  let v163 : BitVec 32 := Scalar.addi v2 c2_i32_65
  let c16_i32_66 : BitVec 32 := 16#32
  let v164 : BitVec 1 := Scalar.cmpi .slt v163 c16_i32_66
  let v165 : BitVec 32 := Scalar.extui v164
  let c0_i32_67 : BitVec 32 := 0#32
  let v166 : BitVec 1 := Scalar.cmpi .ne v165 c0_i32_67
  v166

def k0_dev29 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_157 : BitVec 32 := 2#32
  let v316 : BitVec 32 := Scalar.addi v2 c2_i32_157
  let c1_i32_161 : BitVec 32 := 1#32
  let v317 : BitVec 32 := Scalar.muli v316 c1_i32_161
  let v318 : BitVec 32 := Scalar.addi c0_i32_162 v317
  v318.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_68 : BitVec 32 := 1#32
  let v167 : BitVec 32 := Scalar.addi v2 c1_i32_68
  let c16_i32_69 : BitVec 32 := 16#32
  let v168 : BitVec 1 := Scalar.cmpi .slt v167 c16_i32_69
  let v169 : BitVec 32 := Scalar.extui v168
  let c0_i32_70 : BitVec 32 := 0#32
  let v170 : BitVec 1 := Scalar.cmpi .ne v169 c0_i32_70
  v170

def k0_dev30 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_157 : BitVec 32 := 1#32
  let v316 : BitVec 32 := Scalar.addi v2 c1_i32_157
  let c1_i32_161 : BitVec 32 := 1#32
  let v317 : BitVec 32 := Scalar.muli v316 c1_i32_161
  let v318 : BitVec 32 := Scalar.addi c0_i32_162 v317
  v318.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S16384x512, .f32⟩
  | .hbm, ⟨5, _⟩ => ⟨S_, .i32⟩
  | .hbm, ⟨6, _⟩ => ⟨S16384x512, .f32⟩
  | .hbm, ⟨7, _⟩ => ⟨S_, .i32⟩
  | .hbm, ⟨8, _⟩ => ⟨S512, .f32⟩
  | .hbm, ⟨9, _⟩ => ⟨S16384x512, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S_, .i32⟩
  | .hbm, ⟨18, _⟩ => ⟨S16384x512, .f32⟩
  | .hbm, ⟨19, _⟩ => ⟨S_, .i32⟩
  | .hbm, ⟨20, _⟩ => ⟨S_, .i32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 16384#32, 1#32⟩
-- ==== Proof.Prefix.lean ====
/-
# The products of the leading rows

What both programs compute, over the extended reals: entry `(R, y)` of the result is the product of the entries of column
`y` in the rows `0, …, R`. This file states that product for arrays of any number of rows, and how it splits: over the
blocks of 1024 rows the devices hold, and as a product over a window that ends at a row.
-/
module

public import Idealize.ShloMosaic.Lib.ValueIdx
public import Mathlib.Algebra.BigOperators.Intervals

@[expose] public section

noncomputable section

namespace Cert.Exchange

open Idealize.ShloMosaic

/-- An array of `n` rows over the extended reals. -/
abbrev Rows (n : ℕ) : Type := (⟨2, ![n, 512]⟩ : Shape).Idx → EReal

/-- Entry `r` of column `y`, and one past the end. -/
def entry {n : ℕ} (X : Rows n) (r : ℕ) (y : Fin 512) : EReal := if h : r < n then X (ValueIdx.ix2 ⟨r, h⟩ y) else 1

theorem entry_of_lt {n : ℕ} (X : Rows n) {r : ℕ} (h : r < n) (y : Fin 512) : entry X r y = X (ValueIdx.ix2 ⟨r, h⟩ y) := dif_pos h

/-- The product of the first `k` entries of column `y`. -/
def leading {n : ℕ} (X : Rows n) (k : ℕ) (y : Fin 512) : EReal := ∏ r ∈ Finset.range k, entry X r y

theorem leading_zero {n : ℕ} (X : Rows n) (y : Fin 512) : leading X 0 y = 1 := Finset.prod_range_zero _
theorem leading_succ {n : ℕ} (X : Rows n) (k : ℕ) (y : Fin 512) : leading X (k + 1) y = leading X k y * entry X k y :=
  Finset.prod_range_succ _ _

/-- The one row of an array of one row. -/
theorem leading_row (X : Rows 1) (y : Fin 512) : leading X 1 y = X (ValueIdx.ix2 (0 : Fin 1) y) :=
  (Finset.prod_range_one _).trans (entry_of_lt X Nat.one_pos y)

/-- The cumulative product down the columns. -/
def cumulative {n : ℕ} (X : Rows n) : Rows n := fun i => leading X ((i 0).val + 1) (i 1)

/-- A product over the places before `c`, taken backwards and filled up with ones. -/
theorem prod_backwards (f : ℕ → EReal) {c n : ℕ} (h : c ≤ n) :
    (∏ j ∈ Finset.range n, if j < c then f (c - 1 - j) else 1) = ∏ j ∈ Finset.range c, f j := by
  obtain ⟨e, rfl⟩ := Nat.exists_eq_add_of_le h
  rw [Finset.prod_range_add, ← Finset.prod_range_reflect f c, Finset.prod_eq_one (s := Finset.range e), mul_one]
  · exact Finset.prod_congr rfl fun j hj => if_pos (Finset.mem_range.mp hj)
  · exact fun j _ => if_neg (by omega)

/-- The product of the `d` entries of column `y` that end at row `r`, as many of them as there are. -/
def window {n : ℕ} (X : Rows n) (d r : ℕ) (y : Fin 512) : EReal :=
  ∏ j ∈ Finset.range d, if j < r + 1 then entry X (r + 1 - 1 - j) y else 1

theorem window_one {n : ℕ} (X : Rows n) (r : ℕ) (y : Fin 512) : window X 1 r y = entry X r y := by
  unfold window
  rw [Finset.prod_range_one, if_pos (Nat.succ_pos r)]
  rfl

/-- A window at least as long as the rows up to `r` holds all of them. -/
theorem window_full {n : ℕ} (X : Rows n) {d r : ℕ} (h : r < d) (y : Fin 512) : window X d r y = leading X (r + 1) y :=
  prod_backwards (fun j => entry X j y) h

/-- A window twice as long: near its end, the window; and before it, the window that ends `d` rows earlier. -/
theorem window_double {n : ℕ} (X : Rows n) (d r : ℕ) (y : Fin 512) :
    window X (d + d) r y = window X d r y * if d ≤ r then window X d (r - d) y else 1 := by
  unfold window
  rw [Finset.prod_range_add]
  congr 1
  by_cases h : d ≤ r
  · rw [if_pos h]
    refine Finset.prod_congr rfl fun j _ => ?_
    by_cases hj : d + j < r + 1
    · rw [if_pos hj, if_pos (by omega)]
      congr 1
      omega
    · rw [if_neg hj, if_neg (by omega)]
  · rw [if_neg h]
    exact Finset.prod_eq_one fun j _ => if_neg (by omega)

/-- The whole array's leading products through the blocks of 1024 rows: those of a block, after those of the rows before
    the block. -/
theorem leading_block (X : Rows 16384) (x : Fin 16 → Rows 1024)
    (hx : ∀ (c : Fin 16) (r : Fin 1024) (y : Fin 512), x c (ValueIdx.ix2 r y) = entry X (c.val * 1024 + r.val) y)
    (c : Fin 16) (k : ℕ) (hk : k ≤ 1024) (y : Fin 512) :
    leading X (c.val * 1024 + k) y = leading X (c.val * 1024) y * leading (x c) k y := by
  unfold leading
  rw [Finset.prod_range_add]
  congr 1
  refine Finset.prod_congr rfl fun r hr => ?_
  have h : r < 1024 := lt_of_lt_of_le (Finset.mem_range.mp hr) hk
  rw [entry_of_lt (x c) h, hx c ⟨r, h⟩ y]

/-- The product over the blocks before `c`. -/
theorem leading_before (X : Rows 16384) (x : Fin 16 → Rows 1024)
    (hx : ∀ (c : Fin 16) (r : Fin 1024) (y : Fin 512), x c (ValueIdx.ix2 r y) = entry X (c.val * 1024 + r.val) y) (y : Fin 512) :
    ∀ k : ℕ, k ≤ 16 → leading X (k * 1024) y = ∏ d ∈ Finset.range k, if h : d < 16 then leading (x ⟨d, h⟩) 1024 y else 1
  | 0, _ => by rw [Nat.zero_mul, leading_zero, Finset.prod_range_zero]
  | k + 1, h => by
    rw [Finset.prod_range_succ, ← leading_before X x hx y k (by omega), dif_pos (show k < 16 by omega),
      ← leading_block X x hx ⟨k, by omega⟩ 1024 (le_refl _) y, Nat.succ_mul]

end Cert.Exchange

end
-- ==== Proof.RefValue.lean ====
/-
# The reference's value

The reference carries the running product of the rows through a loop of 16384 trips and writes it out row by row. Before
trip `k` the carried row is the product of the first `k` rows, and the rows before `k` of the result are done.
-/
module

public import proofs.«01_k».proof.Proof.Prefix
public import proofs.«01_k».proof.Proof.Gen.ReferenceIdeal.Run
public import Idealize.ShloMosaic.Lib.WordCmp
public import Idealize.ShloMosaic.Lib.ValueLayout
public import Idealize.ShloMosaic.Lib.Pointwise
public import Idealize.ShloMosaic.Lib.IdealHost

@[expose] public section

noncomputable section

namespace Cert.Exchange.Ref

open Cert.ReferenceIdeal Cert.ReferenceIdeal.Gen Cert.ReferenceIdeal.Value

open Idealize.ShloMosaic hiding ix1 ix2 ix3 eq_ix1 eq_ix2 eq_ix3
open Idealize.ShloMosaic.TcCoe Idealize.SL.Sem Idealize.ShloMosaic.StableHlo Idealize.ShloMosaic.WordCmp Idealize.ShloMosaic.Ideal
open Idealize.ShloMosaic.ValueIdx

/-- Row `k` of `x`, as the loop reads it. -/
theorem row_read (X : (⟨2, ![16384, 512]⟩ : Shape).Idx → EReal) (k : ℕ) (hk : k < 16384) (st : Fin 2 → Int) (h0 : st 0 = (k : Int)) (h1 : st 1 = 0)
    (y : Fin 512) :
    shapeCast S512 (Host.dynamicSlice S1x512 X st sliceFits_S16384x512_S1x512) shapeCasts_S1x512_S512 (ix1 y) = entry X k y := by
  have hs : S16384x512.Slices ![k, 0] S1x512 := ⟨rfl, fun a => by
    fin_cases a
    · show k + 1 ≤ 16384; omega
    · show 0 + 512 ≤ 512; omega⟩
  rw [dynamicSlice_eq_extract S1x512 X st sliceFits_S16384x512_S1x512 ![k, 0] hs (fun a => by
    fin_cases a
    · exact h0
    · exact h1), entry_of_lt X hk]
  exact (shapeCast_1a_a_apply _ _ y).trans (slice2_axis0_apply k X hs 0 y ⟨k, hk⟩ rfl)

/-- A row written at `k` into the result: the row there, the old contents elsewhere. -/
theorem row_write (Z : S16384x512.Idx → EReal) (u : S512.Idx → EReal) (k : ℕ) (hk : k < 16384) (st : Fin 2 → Int) (h0 : st 0 = (k : Int)) (h1 : st 1 = 0)
    (r : Fin 16384) (y : Fin 512) :
    Host.dynamicUpdateSlice Z (broadcastInDim S1x512 ![1] bcast_S512_S1x512_1 u) st updateFits_S16384x512_S1x512 (ix2 r y)
      = if r.val = k then u (ix1 y) else Z (ix2 r y) := by
  have hs : S16384x512.Slices ![k, 0] S1x512 := ⟨rfl, fun a => by
    fin_cases a
    · show k + 1 ≤ 16384; omega
    · show 0 + 512 ≤ 512; omega⟩
  rw [dynamicUpdateSlice_eq_update Z _ st updateFits_S16384x512_S1x512 ![k, 0] hs (fun a => by
    fin_cases a
    · exact h0
    · exact h1), updateSlice_apply]
  by_cases e : r.val = k
  · rw [if_pos e, dif_pos (fun a => by
      fin_cases a
      · show k ≤ r.val ∧ r.val < k + 1; omega
      · show 0 ≤ y.val ∧ y.val < 0 + 512; omega)]
    rw [Pointwise.broadcastInDim_apply]
    refine congrArg u (funext fun a => ?_)
    fin_cases a
    exact Fin.ext (Nat.sub_zero _)
  · rw [if_neg e, dif_neg fun h => e ?_]
    have := h 0
    have h1 : k ≤ r.val ∧ r.val < k + 1 := this
    omega

/-- What the loop's arrays hold before trip `k`: the argument, the count, the product of the first `k` rows, and the first `k`
    rows of the result. -/
structure Before (X : Rows 16384) (k : ℕ) (V : Valuation τ sig (Elt Ideal)) : Prop where
  source : V (Proc.devRef .tc main_v2_0) = X
  count : V (Proc.devRef .tc main_v2_1) = fun _ => BitVec.ofNat 32 k
  carry : ∀ y, V (Proc.devRef .tc main_v2_2) (ix1 y) = leading X k y
  done : ∀ (r : Fin 16384) (y : Fin 512), r.val < k → V (Proc.devRef .tc main_v2_3) (ix2 r y) = leading X (r.val + 1) y

variable (m : (ℓ : Loc nD τ sig) → Buf (Elt Ideal) ℓ) (ρ : Dev nD → PrngReg) (c : Dev nD)

/-- Before the first trip the carried row is a row of ones. -/
theorem before_zero : Before (m ((c.tc : Thread nD τ).loc main_arg0)) 0 (entryContents preI m c) where
  source := by simp only [entryContents, afterL_cons, afterL_nil]; after_reads_simp; rfl
  count := ctr_entry m c
  carry y := by
    rw [leading_zero]
    simp only [entryContents, afterL_cons, afterL_nil]; after_reads_simp
    exact ofBits_one_f32
  done r y h := absurd h (Nat.not_lt_zero _)

/-- A trip multiplies the carried row by row `k` and writes the product out as row `k` of the result. -/
theorem before_succ {X : Rows 16384} {k : ℕ} {V : Valuation τ sig (Elt Ideal)} (hk : k < 16384) (h : Before X k V) : Before X (k + 1) (STEP V) := by
  have hv : ∀ y, res_main_while0b_v4 V (ix1 y) = leading X (k + 1) y := fun y => by
    unfold res_main_while0b_v4
    rw [h.source, h.count, leading_succ, ← h.carry y, ← row_read X k hk _ ?_ ?_ y]
    · rfl
    · exact toInt_ofNat_of_lt (w := 32) (by omega)
    · rfl
  refine ⟨(STEP_main_v2_0 V).trans h.source, ?_, fun y => ?_, fun r y hr => ?_⟩
  · rw [STEP_main_v2_1]; unfold step_main_v2_1; rw [h.count]
    funext i
    show BitVec.ofNat 32 k + 1#32 = BitVec.ofNat 32 (k + 1)
    simp only [BitVec.ofNat_add]
  · rw [STEP_main_v2_2]; unfold step_main_v2_2; exact hv y
  · rw [STEP_main_v2_3]; unfold step_main_v2_3
    rw [h.count]
    refine (row_write _ _ k hk _ ?_ ?_ r y).trans ?_
    · exact toInt_ofNat_of_lt (w := 32) (by omega)
    · rfl
    · by_cases e : r.val = k
      · rw [if_pos e, hv, e]
      · rw [if_neg e]; exact h.done r y (by omega)

/-- So it is before every trip, and after the last. -/
theorem before (k : ℕ) (hk : k ≤ 16384) : Before (m ((c.tc : Thread nD τ).loc main_arg0)) k (STEP^[k] (entryContents preI m c)) := by
  induction k with
  | zero => exact before_zero m c
  | succ k ih => rw [Function.iterate_succ_apply']; exact before_succ hk (ih (by omega))

/-- The reference ends with the cumulative product of its argument, which it leaves as it was. -/
theorem run_value : θ_run (defs (F := Ideal)) (onTc (τ := τ) (main (F := Ideal))) ⟨m, fun _ => 0, ρ⟩ fun r => ∀ c : Dev nD,
      r.2.mem ((c.tc : Thread nD τ).loc main_v2_3) = cumulative (m ((c.tc : Thread nD τ).loc main_arg0))
      ∧ r.2.mem ((c.tc : Thread nD τ).loc main_arg0) = m ((c.tc : Thread nD τ).loc main_arg0) :=
  (θ_run defs _ _).mono (fun _ h c => ⟨(h c).1.trans (funext fun i => by
    rw [eq_ix2 i]
    exact (before m c 16384 (le_refl _)).done (i 0) (i 1) (i 0).isLt), (h c).2⟩) (Value.run m ρ)

end Cert.Exchange.Ref

end
-- ==== Proof.Combine.lean ====
/-
# The kernel's two ways to multiply rows

The kernel multiplies the rows of an array by halving: the upper half of the rows times the lower half, until one row is
left. It makes cumulative products by doubling: every row times the row `d` places before it, for `d = 1, 2, 4, …`.
-/
module

public import proofs.«01_k».proof.Proof.Prefix
public import Idealize.ShloMosaic.Lib.ValueLayout
public import Idealize.ShloMosaic.Lib.Pipeline.Value
public import Idealize.ShloMosaic.Lib.IdealHost

@[expose] public section

noncomputable section

namespace Cert.Exchange

open Idealize.ShloMosaic
open Idealize.ShloMosaic.ValueIdx

/-- Halving leaves the product of the rows what it was. -/
theorem leading_halve {n n2 : ℕ} (hn : n2 = n + n) (v : FVec Ideal ⟨2, ![n2, 512]⟩ .f32)
    (hu : (⟨2, ![n2, 512]⟩ : Shape).Slices ![0, 0] ⟨2, ![n, 512]⟩) (hl : (⟨2, ![n2, 512]⟩ : Shape).Slices ![n, 0] ⟨2, ![n, 512]⟩) (y : Fin 512) :
    leading (n := n) (mulf (extractStridedSlice ⟨2, ![n, 512]⟩ ![0, 0] v hu) (extractStridedSlice ⟨2, ![n, 512]⟩ ![n, 0] v hl)) n y
      = leading (n := n2) v n2 y := by
  subst hn
  unfold leading
  rw [Finset.prod_range_add, ← Finset.prod_mul_distrib]
  refine Finset.prod_congr rfl fun r hr => ?_
  have h : r < n := Finset.mem_range.mp hr
  rw [entry_of_lt _ h, entry_of_lt _ (show r < n + n by omega), entry_of_lt _ (show n + r < n + n by omega), mulf_apply]
  congr 1
  · exact slice2_axis0_apply 0 v hu ⟨r, h⟩ y ⟨r, by omega⟩ (Nat.zero_add r).symm
  · exact slice2_axis0_apply n v hl ⟨r, h⟩ y ⟨n + r, by omega⟩ rfl

/-- Doubling: if every row of `v` is the product of a window of `d` rows of `x`, then after the step every row is the product
    of a window of twice as many. -/
theorem window_step {d e n : ℕ} (hn : n = d + e) (x : Rows n) (v : FVec Ideal ⟨2, ![n, 512]⟩ .f32)
    (hs : (⟨2, ![n, 512]⟩ : Shape).Slices ![0, 0] ⟨2, ![e, 512]⟩)
    (hc : Shape.Concatenates [⟨2, ![d, 512]⟩, ⟨2, ![e, 512]⟩] ⟨2, ![n, 512]⟩ 0)
    (h : ∀ (r : Fin n) (y : Fin 512), v (ix2 r y) = window x d r.val y) (r : Fin n) (y : Fin 512) :
    (mulf v (concatenate ⟨2, ![n, 512]⟩ 0
      [⟨⟨2, ![d, 512]⟩, broadcast ⟨2, ![d, 512]⟩ (Scalar.ofBits .f32 0x3F800000#32 : Ideal .f32)⟩,
       ⟨⟨2, ![e, 512]⟩, extractStridedSlice ⟨2, ![e, 512]⟩ ![0, 0] v hs⟩] hc) : FVec Ideal ⟨2, ![n, 512]⟩ .f32) (ix2 r y)
      = window x (d + d) r.val y := by
  subst hn
  rw [mulf_apply, window_double, h r y]
  congr 1
  by_cases hd : d ≤ r.val
  · rw [if_pos hd]
    refine (concatenate_pair_apply_right 0 _ _ hc (ix2 r y) rfl rfl (ix2 (⟨r.val - d, by omega⟩ : Fin e) y) (fun b hb => ?_) ?_).trans ?_
    · fin_cases b
      · exact absurd rfl hb
      · rfl
    · show r.val - d + d = r.val
      omega
    · refine (slice2_axis0_apply 0 v hs ⟨r.val - d, by omega⟩ y ⟨r.val - d, by omega⟩ (Nat.zero_add _).symm).trans ?_
      exact h _ y
  · rw [if_neg hd]
    refine (concatenate_pair_apply_left 0 _ _ hc (ix2 r y) rfl (ix2 (⟨r.val, by omega⟩ : Fin d) y) (fun b => ?_)).trans ?_
    · fin_cases b <;> rfl
    · exact Ideal.ofBits_one_f32

end Cert.Exchange

end
-- ==== Proof.Protocol.lean ====
/-
# The protocol of the exchange

Sixteen devices hold one block of rows each. Every device multiplies its rows together into one row (its TOTAL) and
sends that row to every device after it; a device multiplies the totals it received into its own running products.

The offset of a message is `j + 1` for `j : Fin 15`: device `c` sends to `up c j = c + (j + 1)` into slot `j` of the
receive buffer there, when there is such a device, and receives from `dn c j = c - (j + 1)` into its own slot `j`, when
there is one. Each device has one barrier cell, and for each `j` one send cell and one receive cell.

* The barrier cell of `c` has one duty for each device after it, one unit each: the device `up c j` pays duty `j`, and
  with it hands over its own slot `j`.
* The send cell `j` of `c` has one duty when `c` sends to `up c j`: it returns the share of the send buffer that the
  copy read.
* The receive cell `j` of `c` has one duty when `c` receives from `dn c j`: it hands over the slot `j` of `c`, holding
  the total of `dn c j`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline library's, and the rounds of the exchange with duties named by the offset -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Who talks to whom -/

/-- The device `j + 1` places after `c`, around the sixteen. -/
def up (c : Dev nD) (j : Fin 15) : Dev nD := ⟨(c.val + (j.val + 1)) % 16, Nat.mod_lt _ (by decide)⟩
/-- The device `j + 1` places before `c`, around the sixteen. -/
def dn (c : Dev nD) (j : Fin 15) : Dev nD := ⟨(c.val + (15 - j.val)) % 16, Nat.mod_lt _ (by decide)⟩

theorem val_lt (c : Dev nD) : c.val < 16 := c.isLt

theorem up_val {c : Dev nD} {j : Fin 15} (h : c.val + j.val + 1 < 16) : (up c j).val = c.val + j.val + 1 := by
  show (c.val + (j.val + 1)) % 16 = _; omega
theorem dn_val {c : Dev nD} {j : Fin 15} (h : j.val < c.val) : (dn c j).val = c.val - j.val - 1 := by
  show (c.val + (15 - j.val)) % 16 = _; have := val_lt c; have := j.isLt; omega
theorem dn_up (c : Dev nD) (j : Fin 15) : dn (up c j) j = c := by
  refine Fin.ext ?_; show ((c.val + (j.val + 1)) % 16 + (15 - j.val)) % 16 = c.val
  have := val_lt c; have := j.isLt; omega
theorem up_dn (c : Dev nD) (j : Fin 15) : up (dn c j) j = c := by
  refine Fin.ext ?_; show ((c.val + (15 - j.val)) % 16 + (j.val + 1)) % 16 = c.val
  have := val_lt c; have := j.isLt; omega
/-- `c` receives from `dn c j` exactly when `dn c j` sends to `c`. -/
theorem dn_sends {c : Dev nD} {j : Fin 15} : (dn c j).val + j.val + 1 < 16 ↔ j.val < c.val := by
  have e : (dn c j).val = (c.val + (15 - j.val)) % 16 := rfl
  have := val_lt c; have := j.isLt; omega
theorem up_receives {c : Dev nD} {j : Fin 15} : j.val < (up c j).val ↔ c.val + j.val + 1 < 16 := by
  rw [← dn_sends, dn_up]

/-- For each offset, the devices moved up by it. -/
def shift : Dev nD × Fin 15 ≃ Dev nD × Fin 15 :=
  ⟨fun p => (up p.1 p.2, p.2), fun p => (dn p.1 p.2, p.2), fun p => by simp only [dn_up], fun p => by simp only [up_dn]⟩

/-! ## Buffers and cells -/

abbrev xM : Memref sig .tc .vmem S1024x512 .f32 := Memref.whole cc0_stg0_0
abbrev oM : Memref sig .tc .vmem S1024x512 .f32 := Memref.whole cc0_stg1_0
abbrev sM : Memref sig .tc .vmem S1x512 .f32 := Memref.whole cc0_scratch0
abbrev rM : Memref sig .tc .vmem S15x1x512 .f32 := Memref.whole cc0_scratch1

theorem slot_inb (j : Fin 15) : ∀ a, (![j.val, 0, 0] : Fin 3 → ℕ) a + S1x1x512.size a ≤ S15x1x512.size a := by
  revert j; decide
/-- Slot `j` of the receive buffer, one row. -/
abbrev slot (j : Fin 15) : Memref sig .tc .vmem S1x512 .f32 :=
  (rM.slice (Rect.unit (s := S15x1x512) ![j.val, 0, 0] S1x1x512.size (slot_inb j)) (fun _ => rfl)).squeeze S1x512 squeezes_S1x1x512_S1x512

theorem sem_inb (j : Fin 15) : ∀ a, (![j.val] : Fin 1 → ℕ) a + S1.size a ≤ S15.size a := by
  revert j; decide
/-- The semaphore `j` of an array of fifteen. -/
abbrev semAt (a : DmaSems sig S15) (j : Fin 15) : DmaSem sig :=
  ((a.slice (Rect.unit (s := S15) ![j.val] S1.size (sem_inb j))).squeeze S_ squeezes_S1_S_).sem

abbrev barS : Sem sig := (SemArray.scalar (sig.barrier 0 rfl) : Sems sig S_).sem
abbrev sendS (j : Fin 15) : DmaSem sig := semAt cc0_scratch2 j
abbrev recvS (j : Fin 15) : DmaSem sig := semAt cc0_scratch3 j

theorem sendS_val (j : Fin 15) : (sendS j).val = j.val + 2 := by revert j; decide
theorem recvS_val (j : Fin 15) : (recvS j).val = j.val + 17 := by revert j; decide

/-- The kernel's own semaphores: the send cells and the receive cells. -/
abbrev osem : Fin 15 ⊕ Fin 15 → SemLoc sig := fun | .inl j => .dma (sendS j) | .inr j => .dma (recvS j)
/-- All semaphores of the exchange: the barrier first. -/
abbrev csem : Unit ⊕ (Fin 15 ⊕ Fin 15) → SemLoc sig := fun | .inl _ => .reg barS | .inr k => osem k

abbrev CK : Type := Unit ⊕ (Fin 15 ⊕ Fin 15)
abbrev kcell (ck : Dev nD × CK) : GSem nD τ sig := ((ck.1 : Thread nD τ), csem ck.2)

abbrev barCell (c : Dev nD) : GSem nD τ sig := kcell (c, .inl ())
abbrev sendCell (c : Dev nD) (j : Fin 15) : GSem nD τ sig := kcell (c, .inr (.inl j))
abbrev recvCell (c : Dev nD) (j : Fin 15) : GSem nD τ sig := kcell (c, .inr (.inr j))

/-- The credit of one row's copy. -/
abbrev N : ℕ := (sM : Memref sig .tc .vmem S1x512 .f32).view.dmaCredit
theorem N_pos : 0 < N := View.dmaCredit_pos _ (by decide)
theorem slot_credit (j : Fin 15) : (slot j).view.dmaCredit = N := rfl

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s total, one row. -/
def total (c : Dev nD) : (cc0_scratch0 : Ref sig .tc).ty.Contents (Elt F) :=
  k0_pay3 (k0_pay1 (xstg m ρ c)) (k0_pay2 (xstg m ρ c))

/-- The receive buffer of `c` when every copy has landed: slot `j` holds the total of `dn c j` when there is one, and
    what it held before otherwise. -/
def landed (c : Dev nD) (f : (cc0_scratch1 : Ref sig .tc).ty.Contents (Elt F)) : (cc0_scratch1 : Ref sig .tc).ty.Contents (Elt F) :=
  fun i => if (i 0).val < c.val then total m ρ (dn c (i 0)) (ValueIdx.ix2 (0 : Fin 1) (i 2)) else f i

/-- The send buffer of `c` at a share. -/
def sPts (c : Dev nD) (q : PosShare TreeShare) (f : Buf (Elt F) (sM.view.loc (c : Thread nD τ))) : sProp 𝕄 :=
  sM.view.loc (c : Thread nD τ) ↦[sM.view.set]{q} f
/-- The slot `j` of `c`'s receive buffer. -/
def slotPts (c : Dev nD) (j : Fin 15) (f : Buf (Elt F) ((slot j).view.loc (c : Thread nD τ))) : sProp 𝕄 :=
  (slot j).view.loc (c : Thread nD τ) ↦[(slot j).view.set]{fullShare} f

omit [FloatOps F] in
instance sPts_storable (c : Dev nD) (q) (f) : BI.Storable (upEmb : UEmb _ 𝕄) (sPts (F := F) c q f) := by unfold sPts; infer_instance
omit [FloatOps F] in
instance slotPts_storable (c : Dev nD) (j : Fin 15) (f) : BI.Storable (upEmb : UEmb _ 𝕄) (slotPts (F := F) c j f) := by unfold slotPts; infer_instance

/-! ### The slots make up the receive buffer -/

/-- The element of slot `j` at column `y`. -/
theorem slot_emb (j : Fin 15) (x : Fin 1) (y : Fin 512) :
    (slot j).view.emb (ValueIdx.ix2 x y) = (ValueIdx.ix3 j x y : S15x1x512.Idx) := by
  have e : Shape.reshapeEquiv (squeezes_S1x1x512_S1x512 : S1x1x512.Squeezes S1x512).numel_eq (ValueIdx.ix2 x y)
      = (ValueIdx.ix3 (⟨0, Nat.one_pos⟩ : Fin 1) x y : S1x1x512.Idx) := ValueIdx.reshapeEquiv_ix2_1ab _ x y
  show (Rect.unit (s := S15x1x512) ![j.val, 0, 0] S1x1x512.size (slot_inb j)).emb
      (Shape.reshapeEquiv (squeezes_S1x1x512_S1x512 : S1x1x512.Squeezes S1x512).numel_eq (ValueIdx.ix2 x y)) = _
  rw [e]
  funext a
  refine Fin.ext ?_
  fin_cases a
  · show j.val + 1 * 0 = j.val; omega
  · show 0 + 1 * x.val = x.val; omega
  · show 0 + 1 * y.val = y.val; omega

/-- An element of the receive buffer is in slot `j` exactly when its first coordinate is `j`. -/
theorem mem_slot {j : Fin 15} {i : S15x1x512.Idx} : i ∈ (slot j).view.set ↔ i 0 = j := by
  constructor
  · intro h
    obtain ⟨z, -, rfl⟩ := Finset.mem_map.mp h
    rw [ValueIdx.eq_ix2 z]
    exact congrFun (slot_emb j (z 0) (z 1)) 0
  · intro h
    refine Finset.mem_map.mpr ⟨ValueIdx.ix2 (i 1) (i 2), Finset.mem_univ _, ?_⟩
    refine (slot_emb j (i 1) (i 2)).trans ?_
    rw [ValueIdx.eq_ix3 i, ← h]; rfl

/-- The elements of slot `j`. -/
abbrev slotSet (j : Fin 15) : Finset S15x1x512.Idx := (slot j).view.set

theorem slot_disjoint {j j' : Fin 15} (h : j ≠ j') : Disjoint (slot j).view.set (slot j').view.set :=
  Finset.disjoint_left.mpr fun i hi hi' => h ((mem_slot.mp hi).symm.trans (mem_slot.mp hi'))

theorem slot_cover : (Finset.univ : Finset (Fin 15)).biUnion slotSet = Finset.univ :=
  Finset.eq_univ_iff_forall.mpr fun i => Finset.mem_biUnion.mpr ⟨i 0, Finset.mem_univ _, mem_slot.mpr rfl⟩

omit [FloatOps F] in
/-- The whole receive buffer is its fifteen slots. -/
theorem slots_eq (c : Dev nD) (f : Buf (Elt F) ((c : Thread nD τ).loc cc0_scratch1)) :
    (((c : Thread nD τ).loc cc0_scratch1) ↦{fullShare} f : sProp 𝕄) = bigSep Finset.univ fun j => slotPts c j f := by
  have h := pointsTo_biUnion (Ix := Unit) (Name := ℕ) (U := UU) (Lvl := ℕ) (ℓ := (c : Thread nD τ).loc cc0_scratch1) (q := fullShare) (f := f)
    (Finset.univ : Finset (Fin 15)) slotSet (fun j _ j' _ h => slot_disjoint h)
  rw [slot_cover] at h
  exact h

omit [FloatOps F] in
theorem sPts_eq (c : Dev nD) (f : Buf (Elt F) ((c : Thread nD τ).loc cc0_scratch0)) :
    sPts c fullShare f = (((c : Thread nD τ).loc cc0_scratch0) ↦{fullShare} f : sProp 𝕄) := by
  unfold sPts; rw [View.set_whole]

/-- What a copy leaves in slot `j` of `c`: the total of `dn c j`, whatever the slot held. -/
theorem landed_slot (c : Dev nD) (j : Fin 15) (h : j.val < c.val) (fd f : Buf (Elt F) ((slot j).view.loc (c : Thread nD τ))) :
    slotPts c j ((slot j).view.write (Elt F) fd (sM.view.read (Elt F) (total m ρ (dn c j))) Finset.univ)
      = (slotPts c j (landed m ρ c f) : sProp 𝕄) := by
  unfold slotPts
  refine pointsTo_congr fun i hi => ?_
  obtain ⟨z, -, rfl⟩ := Finset.mem_map.mp hi
  rw [View.write_emb_of_mem _ _ (Finset.mem_univ z), View.read_whole]
  obtain ⟨a, b, rfl⟩ : ∃ (a : Fin 1) (b : Fin 512), z = ValueIdx.ix2 a b := ⟨z 0, z 1, ValueIdx.eq_ix2 z⟩
  rw [slot_emb]
  rw [Subsingleton.elim a 0]
  exact (if_pos h).symm

/-- The contents of a filled slot do not depend on what the buffer held. -/
theorem landed_any (c : Dev nD) (j : Fin 15) (h : j.val < c.val) (f f' : Buf (Elt F) ((slot j).view.loc (c : Thread nD τ))) :
    (slotPts c j (landed m ρ c f) : sProp 𝕄) = slotPts c j (landed m ρ c f') := by
  unfold slotPts
  refine pointsTo_congr fun i hi => ?_
  unfold landed
  rw [if_pos (by rw [mem_slot.mp hi]; exact h), if_pos (by rw [mem_slot.mp hi]; exact h)]

/-- A slot that no copy fills keeps its contents. -/
theorem kept_slot (c : Dev nD) (j : Fin 15) (h : ¬ j.val < c.val) (f : Buf (Elt F) ((slot j).view.loc (c : Thread nD τ))) :
    (slotPts c j f : sProp 𝕄) = slotPts c j (landed m ρ c f) := by
  unfold slotPts
  refine pointsTo_congr fun i hi => ?_
  unfold landed
  rw [if_neg]
  rw [mem_slot.mp hi]; exact h

/-! ## The schedule -/

/-- What `up c j`'s signal hands `c`: slot `j` there. -/
def barPay (c : Dev nD) (j : Fin 15) : sProp 𝕄 := iprop(∃ f, slotPts (up c j) j f)
/-- The left half of the left half …, `k` times. -/
def leftmost : ℕ → PosShare TreeShare
  | 0 => fullShare
  | k + 1 => (leftmost k).left
/-- What is left of the send buffer when the copies to the offsets before `n` are still to come: every copy takes the
    right half of what is left. -/
def shareLeft (c : Dev nD) (n : ℕ) : PosShare TreeShare := leftmost (15 - c.val - n)
/-- The share of the send buffer that the copy to `up c j` reads. -/
def shareSent (c : Dev nD) (j : Fin 15) : PosShare TreeShare := (leftmost (15 - c.val - (j.val + 1))).right
def sendPay (c : Dev nD) (j : Fin 15) : sProp 𝕄 := sPts c (shareSent c j) (total m ρ c)
/-- Slot `j` of `c` with the total of `dn c j` in it. -/
def recvPay (c : Dev nD) (j : Fin 15) : sProp 𝕄 := iprop(∃ f, slotPts c j (landed m ρ c f))

/-- Which cell of the exchange a semaphore is. -/
def kind : SemLoc sig → Option CK
  | .reg s => if s = barS then some (.inl ()) else none
  | .dma q =>
    if q.val < 2 then none
    else if q.val < 17 then some (.inr (.inl ⟨(q.val - 2) % 15, Nat.mod_lt _ (by decide)⟩))
    else some (.inr (.inr ⟨(q.val - 2) % 15, Nat.mod_lt _ (by decide)⟩))

theorem kind_csem (k : CK) : kind (csem k) = some k := by revert k; decide

/-- The duties of device `c`'s cells, each named by its offset. -/
def dutiesOf (c : Dev nD) : Option CK → Finset (Fin 15)
  | some (.inl _) => Finset.univ.filter fun j => c.val + j.val + 1 < 16
  | some (.inr (.inl j)) => if c.val + j.val + 1 < 16 then {j} else ∅
  | some (.inr (.inr j)) => if j.val < c.val then {j} else ∅
  | none => ∅
def amountAt : Option CK → ℕ
  | some (.inl _) => 1
  | _ => N
def payOf (c : Dev nD) (j : Fin 15) : Option CK → sProp 𝕄
  | some (.inl _) => barPay c j
  | some (.inr (.inl _)) => sendPay m ρ c j
  | some (.inr (.inr _)) => recvPay m ρ c j
  | none => iprop(emp)

/-- One round, round 0, on the cells of the exchange. -/
def Rd : Rounds.Schedule (GSem nD τ sig) (Fin 15) 𝕄 where
  duties g r := if r = 0 ∧ g.1.2 = .tc then dutiesOf g.1.1 (kind g.2) else ∅
  unitless _ := False
  amount g _ _ := amountAt (kind g.2)
  payload g _ j := payOf m ρ g.1.1 j (kind g.2)
  amount_pos g _ _ _ := by
    show 0 < amountAt (kind g.2)
    unfold amountAt
    split
    · exact Nat.one_pos
    · exact N_pos

instance Rd_payload_storable (g : GSem nD τ sig) (r : ℕ) (j : Fin 15) :
    BI.Storable (upEmb : UEmb _ 𝕄) ((Rd (F := F) m ρ).payload g r j) := by
  show BI.Storable upEmb (payOf m ρ g.1.1 j (kind g.2))
  unfold payOf barPay sendPay recvPay
  split <;> infer_instance

theorem duties_zero (c : Dev nD) (k : CK) : (Rd (F := F) m ρ).duties (kcell (c, k)) 0 = dutiesOf c (some k) := by
  show (if 0 = 0 ∧ (c : Thread nD τ).2 = .tc then dutiesOf c (kind (csem k)) else ∅) = _
  rw [if_pos ⟨rfl, rfl⟩, kind_csem]
theorem duties_later (g : GSem nD τ sig) : ∀ r, 1 ≤ r → (Rd (F := F) m ρ).duties g r = ∅ :=
  fun r hr => if_neg fun h => by omega
/-- A cell without duties in round 0 has none at all. -/
theorem duties_none {c : Dev nD} {k : CK} (h : dutiesOf c (some k) = ∅) : ∀ r, 0 ≤ r → (Rd (F := F) m ρ).duties (kcell (c, k)) r = ∅ := by
  intro r _
  rcases Nat.eq_zero_or_pos r with rfl | hr
  · rw [duties_zero, h]
  · exact duties_later m ρ _ r hr
theorem amount_eq (c : Dev nD) (k : CK) (r : ℕ) (j : Fin 15) : (Rd (F := F) m ρ).amount (kcell (c, k)) r j = amountAt (some k) := by
  show amountAt (kind (csem k)) = _; rw [kind_csem]
theorem payload_eq (c : Dev nD) (k : CK) (r : ℕ) (j : Fin 15) : (Rd (F := F) m ρ).payload (kcell (c, k)) r j = payOf m ρ c j (some k) := by
  show payOf m ρ c j (kind (csem k)) = _; rw [kind_csem]

theorem bar_duty {c : Dev nD} {j : Fin 15} (h : j.val < c.val) : j ∈ (Rd (F := F) m ρ).duties (barCell (dn c j)) 0 := by
  rw [duties_zero]; exact Finset.mem_filter.mpr ⟨Finset.mem_univ _, dn_sends.mpr h⟩
theorem send_duty {c : Dev nD} {j : Fin 15} (h : c.val + j.val + 1 < 16) : j ∈ (Rd (F := F) m ρ).duties (sendCell c j) 0 := by
  rw [duties_zero]; show j ∈ (if _ then _ else _); rw [if_pos h]; exact Finset.mem_singleton_self _
theorem recv_duty {c : Dev nD} {j : Fin 15} (h : c.val + j.val + 1 < 16) : j ∈ (Rd (F := F) m ρ).duties (recvCell (up c j) j) 0 := by
  rw [duties_zero]; show j ∈ (if _ then _ else _); rw [if_pos (up_receives.mpr h)]; exact Finset.mem_singleton_self _

theorem expect_bar (c : Dev nD) : (Rd (F := F) m ρ).expect (barCell c) 0 = 15 - c.val := by
  unfold Schedule.expect Schedule.amountOf
  rw [duties_zero, Finset.sum_congr rfl fun j _ => amount_eq m ρ c (.inl ()) 0 j]
  show ∑ j ∈ (Finset.univ.filter fun j : Fin 15 => c.val + j.val + 1 < 16), 1 = 15 - c.val
  revert c; decide
theorem expect_send {c : Dev nD} {j : Fin 15} (h : c.val + j.val + 1 < 16) : (Rd (F := F) m ρ).expect (sendCell c j) 0 = N := by
  unfold Schedule.expect Schedule.amountOf
  rw [duties_zero, show dutiesOf c (some (.inr (.inl j))) = {j} from if_pos h, Finset.sum_singleton, amount_eq]; rfl
theorem expect_recv {c : Dev nD} {j : Fin 15} (h : j.val < c.val) : (Rd (F := F) m ρ).expect (recvCell c j) 0 = N := by
  unfold Schedule.expect Schedule.amountOf
  rw [duties_zero, show dutiesOf c (some (.inr (.inr j))) = {j} from if_pos h, Finset.sum_singleton, amount_eq]; rfl

/-- What the barrier wait of `c` brings: the slot of every device after it. -/
theorem rest_bar (c : Dev nD) : bigSep ((Rd (F := F) m ρ).duties (barCell c) 0 \ ∅) (fun j => (Rd (F := F) m ρ).payload (barCell c) 0 j)
    = bigSep Finset.univ fun j : Fin 15 => if c.val + j.val + 1 < 16 then barPay c j else iprop(emp) := by
  rw [Finset.sdiff_empty, duties_zero]
  exact (bigSep_congr fun j _ => payload_eq m ρ c (.inl ()) 0 j).trans (bigSep_filter _ _ _)
theorem rest_send {c : Dev nD} {j : Fin 15} (h : c.val + j.val + 1 < 16) :
    bigSep ((Rd (F := F) m ρ).duties (sendCell c j) 0 \ ∅) (fun d => (Rd (F := F) m ρ).payload (sendCell c j) 0 d) = sendPay m ρ c j := by
  rw [Finset.sdiff_empty, duties_zero, show dutiesOf c (some (.inr (.inl j))) = {j} from if_pos h, bigSep_singleton, payload_eq]; rfl
theorem rest_recv {c : Dev nD} {j : Fin 15} (h : j.val < c.val) :
    bigSep ((Rd (F := F) m ρ).duties (recvCell c j) 0 \ ∅) (fun d => (Rd (F := F) m ρ).payload (recvCell c j) 0 d) = recvPay m ρ c j := by
  rw [Finset.sdiff_empty, duties_zero, show dutiesOf c (some (.inr (.inr j))) = {j} from if_pos h, bigSep_singleton, payload_eq]; rfl

/-! ## What a device owes, and the levels -/

/-- The offsets before `n`, and the others. -/
def lo (n : ℕ) : Finset (Fin 15) := Finset.univ.filter fun j => j.val < n
def hi (n : ℕ) : Finset (Fin 15) := Finset.univ.filter fun j => n ≤ j.val

theorem lo_succ (j : Fin 15) : lo (j.val + 1) = insert j (lo j.val) := by
  ext i; simp only [lo, Finset.mem_filter, Finset.mem_univ, true_and, Finset.mem_insert, Fin.ext_iff]; omega
theorem lo_notMem (j : Fin 15) : j ∉ lo j.val := by simp [lo]
theorem hi_succ (j : Fin 15) : hi j.val = insert j (hi (j.val + 1)) := by
  ext i; simp only [hi, Finset.mem_filter, Finset.mem_univ, true_and, Finset.mem_insert, Fin.ext_iff]; omega
theorem hi_notMem (j : Fin 15) : j ∉ hi (j.val + 1) := by simp [hi]
theorem lo_zero : lo 0 = ∅ := by decide
theorem lo_all : lo 15 = Finset.univ := by decide
theorem hi_zero : hi 0 = Finset.univ := by decide
theorem hi_all : hi 15 = ∅ := by decide

/-- The credit device `c` owes the receive cells of the devices at the offsets before `n`. -/
def ORecv (c : Dev nD) (n : ℕ) : CellTallies nD τ sig Unit :=
  ∑ j ∈ lo n, if c.val + j.val + 1 < 16 then tallyAt (recvCell (up c j) j) () N else 0
/-- All of that, and the units it owes the barrier cells of the devices before it, at the offsets before `n`. -/
def OSig (c : Dev nD) (n : ℕ) : CellTallies nD τ sig Unit :=
  ORecv c 15 + ∑ j ∈ lo n, if j.val < c.val then tallyAt (barCell (dn c j)) () 1 else 0

theorem ORecv_zero (c : Dev nD) : ORecv c 0 = 0 := by unfold ORecv; rw [lo_zero]; rfl
theorem OSig_zero (c : Dev nD) : OSig c 0 = ORecv c 15 := by unfold OSig; rw [lo_zero]; exact add_zero _
theorem ORecv_succ (c : Dev nD) (j : Fin 15) :
    ORecv c (j.val + 1) = ORecv c j.val + if c.val + j.val + 1 < 16 then tallyAt (recvCell (up c j) j) () N else 0 := by
  unfold ORecv; rw [lo_succ, Finset.sum_insert (lo_notMem j), add_comm]
theorem OSig_succ (c : Dev nD) (j : Fin 15) :
    OSig c (j.val + 1) = OSig c j.val + if j.val < c.val then tallyAt (barCell (dn c j)) () 1 else 0 := by
  unfold OSig; rw [lo_succ, Finset.sum_insert (lo_notMem j), add_assoc]; congr 1; exact add_comm _ _

def L (g : GSem nD τ sig) : Finset Unit := if g.1.2 = .tc then {()} else ∅
def levOf : Option CK → ℕ
  | some (.inl _) => 1
  | some (.inr (.inr _)) => 2
  | _ => 0
/-- Barrier cells at 1, receive cells at 2, every other cell at 0. -/
def lv (g : GSem nD τ sig) (_ : Unit) : ℕ := levOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_eq (c : Dev nD) (k : CK) (u : Unit) : lv (kcell (c, k)) u = levOf (some k) := by unfold lv; rw [kind_csem]

theorem sum_tally_pos {s : Finset (Fin 15)} {f : Fin 15 → CellTallies nD τ sig Unit} {g : GSem nD τ sig} {u : Unit}
    (h : 0 < (∑ j ∈ s, f j) g u) : ∃ j ∈ s, 0 < f j g u := by
  by_contra hn
  push Not at hn
  rw [Finset.sum_apply, Finsupp.finset_sum_apply, Finset.sum_eq_zero fun j hj => Nat.le_zero.mp (hn j hj)] at h
  exact Nat.lt_irrefl 0 h
theorem if_tally_pos {p : Prop} [Decidable p] {g' g : GSem nD τ sig} {n : ℕ} {u : Unit}
    (h : 0 < (if p then tallyAt g' () n else 0 : CellTallies nD τ sig Unit) g u) : p ∧ g = g' := by
  by_cases hp : p
  · rw [if_pos hp, tallyAt_apply] at h
    by_cases hg : g = g' ∧ u = ()
    · exact ⟨hp, hg.1⟩
    · rw [if_neg hg] at h; exact absurd h (Nat.lt_irrefl 0)
  · rw [if_neg hp] at h; exact absurd h (Nat.lt_irrefl 0)

theorem ORecv_pos {c : Dev nD} {n : ℕ} {g : GSem nD τ sig} {u : Unit} (h : 0 < ORecv c n g u) :
    ∃ c' j, g = recvCell c' j := by
  obtain ⟨j, -, hj⟩ := sum_tally_pos h
  exact ⟨_, j, (if_tally_pos hj).2⟩
theorem OSig_pos {c : Dev nD} {n : ℕ} {g : GSem nD τ sig} {u : Unit} (h : 0 < OSig c n g u) :
    (∃ c' j, g = recvCell c' j) ∨ ∃ c', g = barCell c' := by
  unfold OSig at h
  rw [Pi.add_apply, Finsupp.add_apply] at h
  rcases Nat.eq_zero_or_pos (ORecv c 15 g u) with h0 | h0
  · rw [h0, Nat.zero_add] at h
    obtain ⟨j, -, hj⟩ := sum_tally_pos h
    exact .inr ⟨_, (if_tally_pos hj).2⟩
  · exact .inl (ORecv_pos h0)

omit [FloatOps F] in
/-- A wait on a cell of level 0 is allowed under everything owed at launch. -/
theorem mayWait_stage (c : Dev nD) (sm : SemLoc sig) (hs : levOf (kind sm) = 0) (O : CellTallies nD τ sig Unit) (hO : O = OSig c 15 ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases OSig_pos hg with ⟨c', j, rfl⟩ | ⟨c', rfl⟩ <;> exact Finset.mem_singleton_self _)
      (fun p hp => by rw [Finset.mem_singleton.mp hp]; exact hs.le)
      (fun g u hg => by
        rcases OSig_pos hg with ⟨c', j, rfl⟩ | ⟨c', rfl⟩
        · rw [lv_eq]; exact Nat.two_pos
        · rw [lv_eq]; exact Nat.one_pos)
  · rw [MayWait_zero]; iintro -; iempintro

omit [FloatOps F] in
/-- The barrier wait is allowed while only credit of receive cells is owed. -/
theorem mayWait_bar (c : Dev nD) : (levAts L lv : sProp 𝕄) ⊢ MayWait (c : Thread nD τ) (.reg barS) () (ORecv c 15) :=
  MayOwe.of_cut (L := L) (lev := lv) 1 (fun p hp => by rw [Finset.mem_singleton.mp hp, L_tc]; exact Finset.mem_singleton_self _)
    (fun g u hg => by obtain ⟨c', j, rfl⟩ := ORecv_pos hg; exact Finset.mem_singleton_self _)
    (fun p hp => by rw [Finset.mem_singleton.mp hp]; exact (lv_eq c (.inl ()) ()).le)
    (fun g u hg => by obtain ⟨c', j, rfl⟩ := ORecv_pos hg; rw [lv_eq]; exact Nat.lt_succ_self 1)

end Cert.Exchange

end
-- ==== Proof.Steps.lean ====
/-
# The four kinds of step

The kernel's conditionals come in four runs of fifteen, one conditional for each offset: the signals, the copies, the
waits for arrivals and the waits for departures. Each run has a state, which says what device `c` holds when the
offsets on one side of `n` are done, and one step lemma that carries the state past a conditional. A step lemma holds for
any frame `R` and any continuation.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- The invariants of all cells, under the names `K` they were allocated at, and that each has reached round 0. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (Rd m ρ) (K ck) (kcell ck) := by
  have h : (bigSep Finset.univ fun ck : Dev nD × CK => (cellInv ER (Rd m ρ) (K ck) (kcell ck) : sProp 𝕄)) ⊢ cellInv ER (Rd m ρ) (K ck) (kcell ck) :=
    bigSep_elim (Finset.mem_univ ck)
  unfold records; iintro ⟨H, -⟩; iapply h; iexact H
theorem reached_at (K : Dev nD × CK → ℕ) (ck : Dev nD × CK) : records m ρ K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h; iexact H

/-- Device `c` owes `O`, whatever waits it recorded. -/
def owing (c : Dev nD) (O : CellTallies nD τ sig Unit) : sProp 𝕄 := iprop(∃ W, owes (c : Thread nD τ) O W)

/-- `P` when `p` holds, nothing otherwise. -/
def onlyIf (p : Prop) [Decidable p] (P : sProp 𝕄) : sProp 𝕄 := if p then P else iprop(emp)

omit [FloatOps F] in
theorem onlyIf_pos {p : Prop} [Decidable p] (h : p) (P : sProp 𝕄) : onlyIf p P = P := if_pos h
omit [FloatOps F] in
theorem onlyIf_neg {p : Prop} [Decidable p] (h : ¬ p) (P : sProp 𝕄) : onlyIf p P = iprop(emp) := if_neg h
omit [FloatOps F] in
theorem emp_sep_eq (P : sProp 𝕄) : iprop(emp ∗ P) = P := equiv_iff.mp emp_sep
omit [FloatOps F] in
theorem sep_emp_eq (P : sProp 𝕄) : iprop(P ∗ emp) = P := equiv_iff.mp sep_emp

theorem lo_bigSep (j : Fin 15) (Φ : Fin 15 → sProp 𝕄) : bigSep (lo (j.val + 1)) Φ = iprop(Φ j ∗ bigSep (lo j.val) Φ) := by
  rw [lo_succ, bigSep_insert (lo_notMem j)]; rfl
theorem hi_bigSep (j : Fin 15) (Φ : Fin 15 → sProp 𝕄) : bigSep (hi j.val) Φ = iprop(Φ j ∗ bigSep (hi (j.val + 1)) Φ) := by
  rw [hi_succ, bigSep_insert (hi_notMem j)]; rfl

variable (K : Dev nD × CK → ℕ) (c : Dev nD)

/-! ## The signals, from the last offset down -/

/-- The signals at the offsets before `n` are still to come: their tokens, and the slots they hand over. -/
def SigSt (f : Buf (Elt F) ((c : Thread nD τ).loc cc0_scratch1)) (n : ℕ) : sProp 𝕄 :=
  iprop(owing c (OSig c n)
    ∗ bigSep (lo n) fun j => onlyIf (j.val < c.val) iprop(dutyTok ER (barCell (dn c j)) 0 j ∗ slotPts c j f))

theorem sig_step (f : Buf (Elt F) ((c : Thread nD τ).loc cc0_scratch1)) (j : Fin 15) {p : Prop} {hd : Decidable p} (hp : p ↔ j.val < c.val)
    {dev : p → Dev nD} (hdev : ∀ h, dev h = dn c j) {r : Prog (TpuEff nD τ sig (Elt F) Λ₀ .tc) α} {Q : α → sProp 𝕄} {R : sProp 𝕄}
    (hk : iprop(records m ρ K ∗ SigSt c f j.val ∗ R) ⊢ Wp c r Q) :
    iprop(records m ρ K ∗ SigSt c f (j.val + 1) ∗ R)
      ⊢ Wp c (if h : p then (semSignalWord (dev h) barS 1#32 >>= fun _ => r) else r) Q := by
  by_cases h : p
  · have hj : j.val < c.val := hp.mp h
    rw [dif_pos h, hdev h]
    simp only [semSignalWord, Prog.bind_op, Prog.bind_ret, Prog.pure_eq_ret]
    unfold SigSt owing
    rw [OSig_succ, if_pos hj, lo_bigSep, onlyIf_pos hj]
    iintro ⟨#HK, ⟨⟨%W, HO⟩, ⟨Ht, Hs⟩, Hrest⟩, HR⟩
    ihave #HI := (inv_at m ρ K (dn c j, .inl ())) $$ HK
    ihave #Hr := (reached_at m ρ K (dn c j, .inl ())) $$ HK
    iapply (Rounds.wp_signal 𝒱₀ ER (Rd m ρ) (c : Thread nD τ) none (dst := (dn c j : Thread nD τ)) (κ := K (dn c j, .inl ()))
      (d := j) (bar_duty m ρ hj) ((amount_eq m ρ (dn c j) (.inl ()) 0 j).trans (by decide)) () (OSig c j.val) rfl) $$ [HO Ht Hs]
    · isplitr; · iexact HI
      isplitl [HO]; · iexact HO
      isplitl [Ht]; · iexact Ht
      isplitl [Hs]
      · iapply (show slotPts c j f ⊢ (Rd m ρ).payload (barCell (dn c j)) 0 j from by
          rw [payload_eq]
          show _ ⊢ barPay (dn c j) j
          unfold barPay
          rw [up_dn]
          iintro H; iexists f; iexact H)
        iexact Hs
      iexact Hr
    iintro HO
    iapply hk
    isplitr; · iexact HK
    isplitl [HO Hrest]
    · unfold SigSt owing
      isplitl [HO]; · iexists W; iexact HO
      iexact Hrest
    iexact HR
  · have hj : ¬ j.val < c.val := fun h' => h (hp.mpr h')
    rw [dif_neg h]
    refine Entails.trans (Entails.of_eq ?_) hk
    unfold SigSt
    rw [OSig_succ, if_neg hj, lo_bigSep, onlyIf_neg hj, add_zero, emp_sep_eq]

/-! ## The copies, from the last offset down -/

/-- The copies to the offsets before `n` are still to come: their tokens, the slots they fill and the share of the send
    buffer they read; the others have left the credit of their send cells. -/
def SendSt (n : ℕ) : sProp 𝕄 :=
  iprop(owing c (ORecv c n)
    ∗ (bigSep (lo n) fun j => onlyIf (c.val + j.val + 1 < 16)
        iprop(dutyTok ER (sendCell c j) 0 j ∗ dutyTok ER (recvCell (up c j) j) 0 j ∗ barPay c j))
    ∗ sPts c (shareLeft c n) (total m ρ c)
    ∗ bigSep (hi n) fun j => onlyIf (c.val + j.val + 1 < 16) (cred (tallyAt (sendCell c j) () N)))

theorem shareLeft_split {j : Fin 15} (h : c.val + j.val + 1 < 16) :
    (sPts c (shareLeft c (j.val + 1)) (total m ρ c) : sProp 𝕄)
      = iprop(sPts c (shareLeft c j.val) (total m ρ c) ∗ sPts c (shareSent c j) (total m ρ c)) := by
  have e : 15 - c.val - j.val = (15 - c.val - (j.val + 1)) + 1 := by omega
  unfold sPts shareLeft shareSent
  rw [e, leftmost]
  have h := pointsTo_share (Ix := Unit) (Name := ℕ) (U := UU) (Lvl := ℕ) (ℓ := sM.view.loc (c : Thread nD τ)) (I := sM.view.set)
    (f := (total m ρ c : Buf (Elt F) (sM.view.loc (c : Thread nD τ)))) (PosShare.mem_left_op_right (leftmost (15 - c.val - (j.val + 1))))
  exact equiv_iff.mp ⟨h.1, h.2⟩

theorem shareLeft_keep {j : Fin 15} (h : ¬ c.val + j.val + 1 < 16) : shareLeft c (j.val + 1) = shareLeft c j.val := by
  unfold shareLeft; congr 1; omega

theorem wp_send_row (n : Dev nD) (j : Fin 15) (hn : n = up c j) (h : c.val + j.val + 1 < 16)
    {hsc : (slot j : Memref sig (Dev.tc n : Thread nD τ).2.kind .vmem S1x512 .f32).view.ref.isScScratch = false}
    {hsrc : (sM : Memref sig .tc .vmem S1x512 .f32).view.WordExact} {hdst : (slot j).view.WordExact}
    {hsem : DmaTarget.Typed .vmem (.dma (recvS j)) (.remote (Dev.tc n : Thread nD τ) (slot j) (.dma (sendS j)) hsc)}
    {Q : α → sProp 𝕄} {k : PUnit → Prog (TpuEff nD τ sig (Elt F) Λ₀ .tc) α}
    (fn : Buf (Elt F) ((slot j).view.loc (up c j : Thread nD τ))) (W : Waits sig Unit) (O : CellTallies nD τ sig Unit) :
    iprop(cellInv ER (Rd m ρ) (K (c, .inr (.inl j))) (sendCell c j) ∗ cellInv ER (Rd m ρ) (K (up c j, .inr (.inr j))) (recvCell (up c j) j)
        ∗ sPts c (shareSent c j) (total m ρ c) ∗ slotPts (up c j) j fn
        ∗ owes (c : Thread nD τ) (O + tallyAt (recvCell (up c j) j) () N) W
        ∗ dutyTok ER (sendCell c j) 0 j ∗ reached ER (sendCell c j) 0
        ∗ dutyTok ER (recvCell (up c j) j) 0 j ∗ reached ER (recvCell (up c j) j) 0)
      ⊢ iprop(((cred (tallyAt (sendCell c j) () N) ∗ owes (c : Thread nD τ) O W) -∗ Wp c (k ⟨⟩) Q)
          -∗ Wp c (.op (.enqueueDma sM (.remote (Dev.tc n : Thread nD τ) (slot j) (.dma (sendS j)) hsc) (.dma (recvS j)) hsrc hdst hsem) k) Q) := by
  subst hn
  unfold sPts slotPts
  exact Rounds.wp_send_pointsTo 𝒱₀ ER (Rd m ρ) (c : Thread nD τ) none (κ₁ := K (c, .inr (.inl j))) (κ₂ := K (up c j, .inr (.inr j)))
    (r₁ := 0) (r₂ := 0) (d₁ := j) (d₂ := j) (fd := fn)
    (send_duty m ρ h) (recv_duty m ρ h)
    () () N rfl (amount_eq m ρ c (.inr (.inl j)) 0 j) (amount_eq m ρ (up c j) (.inr (.inr j)) 0 j) O rfl (W := W)
    (by rw [payload_eq]; exact BI.Entails.refl _)
    (by
      rw [payload_eq]
      show _ ⊢ recvPay m ρ (up c j) j
      unfold recvPay
      have e := landed_slot m ρ (up c j) j (up_receives.mpr h) fn fn
      rw [dn_up] at e
      iintro H
      iexists fn
      iapply (Entails.of_eq e)
      unfold slotPts
      iexact H)

theorem send_step (j : Fin 15) {p : Prop} {hd : Decidable p} (hp : p ↔ c.val + j.val + 1 < 16)
    {dev : p → Dev nD} (hdev : ∀ h, dev h = up c j)
    {r : Prog (TpuEff nD τ sig (Elt F) Λ₀ .tc) α} {Q : α → sProp 𝕄} {R : sProp 𝕄}
    (hk : iprop(records m ρ K ∗ SendSt m ρ c j.val ∗ R) ⊢ Wp c r Q) :
    iprop(records m ρ K ∗ SendSt m ρ c (j.val + 1) ∗ R)
      ⊢ Wp c (if h : p then (Prog.lift (.enqueueDma sM (.remote (Dev.tc (dev h) : Thread nD τ) (slot j) (.dma (sendS j)) rfl) (.dma (recvS j)) (Memref.isWhole_whole _).wordExact
            ((View.wordExact_bits rfl).reshape _ _) ⟨⟨rfl, Or.inl rfl⟩, trivial⟩) >>= fun _ => r) else r) Q := by
  by_cases h : p
  · have hj := hp.mp h
    rw [dif_pos h]
    simp only [Prog.lift, Prog.bind_op, Prog.bind_ret, Prog.pure_eq_ret]
    unfold SendSt owing
    rw [ORecv_succ, if_pos hj, lo_bigSep, onlyIf_pos hj, shareLeft_split m ρ c hj]
    unfold barPay
    iintro ⟨#HK, ⟨⟨%W, HO⟩, ⟨⟨Ht, Hu, ⟨%fn, Hs⟩⟩, Hrest⟩, ⟨Hx, Hy⟩, Hc⟩, HR⟩
    ihave #HI := (inv_at m ρ K (c, .inr (.inl j))) $$ HK
    ihave #HJ := (inv_at m ρ K (up c j, .inr (.inr j))) $$ HK
    ihave #Hr := (reached_at m ρ K (c, .inr (.inl j))) $$ HK
    ihave #Hv := (reached_at m ρ K (up c j, .inr (.inr j))) $$ HK
    iapply (wp_send_row m ρ K c (dev h) j (hdev h) hj fn W (ORecv c j.val)) $$ [HO Ht Hu Hs Hy]
    · isplitr; · iexact HI
      isplitr; · iexact HJ
      isplitl [Hy]; · iexact Hy
      isplitl [Hs]; · iexact Hs
      isplitl [HO]; · iexact HO
      isplitl [Ht]; · iexact Ht
      isplitr; · iexact Hr
      isplitl [Hu]; · iexact Hu
      iexact Hv
    iintro ⟨Hd, HO⟩
    iapply hk
    isplitr; · iexact HK
    isplitr [HR]
    · unfold SendSt owing barPay
      rw [hi_bigSep, onlyIf_pos hj]
      isplitl [HO]; · iexists W; iexact HO
      isplitl [Hrest]; · iexact Hrest
      isplitl [Hx]; · iexact Hx
      isplitl [Hd]; · iexact Hd
      iexact Hc
    iexact HR
  · have hj : ¬ c.val + j.val + 1 < 16 := fun h' => h (hp.mpr h')
    rw [dif_neg h]
    refine Entails.trans (Entails.of_eq ?_) hk
    unfold SendSt
    rw [ORecv_succ, if_neg hj, lo_bigSep, onlyIf_neg hj, add_zero, emp_sep_eq, hi_bigSep, onlyIf_neg hj, emp_sep_eq, shareLeft_keep c hj]

/-! ## The waits for arrivals, from the first offset up -/

/-- The arrivals at the offsets before `n` are in: their cells are closed and their slots filled. -/
def RecvSt (f : Buf (Elt F) ((c : Thread nD τ).loc cc0_scratch1)) (n : ℕ) : sProp 𝕄 :=
  iprop(owing c 0
    ∗ (bigSep (hi n) fun j => iprop(atPos ER (recvCell c j) 0 ∅ 0 ∗ if j.val < c.val then cred (tallyAt (recvCell c j) () N) else slotPts c j f))
    ∗ bigSep (lo n) fun j => iprop(semVal (recvCell c j) 0 ∗ slotPts c j (landed m ρ c f)))

theorem recv_step (f : Buf (Elt F) ((c : Thread nD τ).loc cc0_scratch1)) (j : Fin 15) {p : Prop} {hd : Decidable p} (hp : p ↔ j.val < c.val)
    {hsrc : (sM : Memref sig .tc .vmem S1x512 .f32).view.WordExact} {hdst : (slot j).view.WordExact}
    {r : Prog (TpuEff nD τ sig (Elt F) Λ₀ .tc) α} {Q : α → sProp 𝕄} {R : sProp 𝕄}
    (hk : iprop(records m ρ K ∗ RecvSt m ρ c f (j.val + 1) ∗ R) ⊢ Wp c r Q) :
    iprop(records m ρ K ∗ RecvSt m ρ c f j.val ∗ R)
      ⊢ Wp c (if h : p then (Prog.lift (.waitDma2 (recvS j) sM (slot j) hsrc hdst) >>= fun _ => r) else r) Q := by
  by_cases h : p
  · have hj := hp.mp h
    rw [dif_pos h]
    simp only [Prog.lift, Prog.bind_op, Prog.bind_ret, Prog.pure_eq_ret]
    unfold RecvSt owing
    rw [hi_bigSep, if_pos hj]
    iintro ⟨#HK, ⟨⟨%W, HO⟩, ⟨⟨Hat, Hc⟩, Hrest⟩, Hdone⟩, HR⟩
    ihave #HI := (inv_at m ρ K (c, .inr (.inr j))) $$ HK
    iapply (Rounds.wp_wait_rest_token 𝒱₀ ER (Rd m ρ) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add]; exact (expect_recv m ρ hj).symm)) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_recv m ρ hj)) $$ Hpay
    unfold recvPay
    icases Hp with ⟨%f', Hs⟩
    imod (Rounds.cell_close ER (Rd m ρ) (Set.mem_univ (K (c, .inr (.inr j)))) (fun h => h) (R := 0 + 1) (duties_later m ρ (recvCell c j))) $$ [Hat] with Hz
    · isplitr; · iexact HI
      iexact Hat
    iapply hk
    isplitr; · iexact HK
    isplitr [HR]
    · unfold RecvSt owing
      rw [lo_bigSep, landed_any m ρ c j hj f f']
      isplitl [HO]; · iexists _; iexact HO
      isplitl [Hrest]; · iexact Hrest
      isplitl [Hz Hs]
      · isplitl [Hz] <;> iassumption
      iexact Hdone
    iexact HR
  · have hj : ¬ j.val < c.val := fun h' => h (hp.mpr h')
    rw [dif_neg h]
    unfold RecvSt
    rw [hi_bigSep, if_neg hj]
    iintro ⟨#HK, ⟨HO, ⟨⟨Hat, Hs⟩, Hrest⟩, Hdone⟩, HR⟩
    ihave #HI := (inv_at m ρ K (c, .inr (.inr j))) $$ HK
    imod (Rounds.cell_close ER (Rd m ρ) (Set.mem_univ (K (c, .inr (.inr j)))) (fun h => h) (R := 0)
      (duties_none m ρ (k := .inr (.inr j)) (if_neg hj))) $$ [Hat] with Hz
    · isplitr; · iexact HI
      iexact Hat
    iapply hk
    isplitr; · iexact HK
    isplitr [HR]
    · unfold RecvSt
      rw [lo_bigSep, ← kept_slot m ρ c j hj f]
      isplitl [HO]; · iexact HO
      isplitl [Hrest]; · iexact Hrest
      isplitl [Hz Hs]
      · isplitl [Hz] <;> iassumption
      iexact Hdone
    iexact HR

/-! ## The waits for departures, from the first offset up -/

/-- The copies to the offsets before `n` have left: their cells are closed and their shares of the send buffer are back. -/
def DoneSt (n : ℕ) : sProp 𝕄 :=
  iprop(owing c 0
    ∗ (bigSep (hi n) fun j => iprop(atPos ER (sendCell c j) 0 ∅ 0 ∗ onlyIf (c.val + j.val + 1 < 16) (cred (tallyAt (sendCell c j) () N))))
    ∗ sPts c (shareLeft c n) (total m ρ c)
    ∗ bigSep (lo n) fun j => semVal (sendCell c j) 0)

theorem done_step (j : Fin 15) {p : Prop} {hd : Decidable p} (hp : p ↔ c.val + j.val + 1 < 16)
    {hsrc : (slot j).view.WordExact} {hdst : (sM : Memref sig .tc .vmem S1x512 .f32).view.WordExact}
    {r : Prog (TpuEff nD τ sig (Elt F) Λ₀ .tc) α} {Q : α → sProp 𝕄} {R : sProp 𝕄}
    (hk : iprop(records m ρ K ∗ DoneSt m ρ c (j.val + 1) ∗ R) ⊢ Wp c r Q) :
    iprop(records m ρ K ∗ DoneSt m ρ c j.val ∗ R)
      ⊢ Wp c (if h : p then (Prog.lift (.waitDma2 (sendS j) (slot j) sM hsrc hdst) >>= fun _ => r) else r) Q := by
  by_cases h : p
  · have hj := hp.mp h
    rw [dif_pos h]
    simp only [Prog.lift, Prog.bind_op, Prog.bind_ret, Prog.pure_eq_ret]
    unfold DoneSt owing
    rw [hi_bigSep, onlyIf_pos hj]
    iintro ⟨#HK, ⟨⟨%W, HO⟩, ⟨⟨Hat, Hc⟩, Hrest⟩, Hx, Hdone⟩, HR⟩
    ihave #HI := (inv_at m ρ K (c, .inr (.inl j))) $$ HK
    iapply (Rounds.wp_wait_rest_token 𝒱₀ ER (Rd m ρ) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add]; exact (expect_send m ρ hj).symm)) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_send m ρ hj)) $$ Hpay
    unfold sendPay
    imod (Rounds.cell_close ER (Rd m ρ) (Set.mem_univ (K (c, .inr (.inl j)))) (fun h => h) (R := 0 + 1) (duties_later m ρ (sendCell c j))) $$ [Hat] with Hz
    · isplitr; · iexact HI
      iexact Hat
    iapply hk
    isplitr; · iexact HK
    isplitr [HR]
    · unfold DoneSt owing
      rw [lo_bigSep, shareLeft_split m ρ c hj]
      isplitl [HO]; · iexists _; iexact HO
      isplitl [Hrest]; · iexact Hrest
      isplitl [Hx Hp]
      · isplitl [Hx] <;> iassumption
      isplitl [Hz] <;> iassumption
    iexact HR
  · have hj : ¬ c.val + j.val + 1 < 16 := fun h' => h (hp.mpr h')
    rw [dif_neg h]
    unfold DoneSt
    rw [hi_bigSep, onlyIf_neg hj]
    iintro ⟨#HK, ⟨HO, ⟨⟨Hat, -⟩, Hrest⟩, Hx, Hdone⟩, HR⟩
    ihave #HI := (inv_at m ρ K (c, .inr (.inl j))) $$ HK
    imod (Rounds.cell_close ER (Rd m ρ) (Set.mem_univ (K (c, .inr (.inl j)))) (fun h => h) (R := 0)
      (duties_none m ρ (k := .inr (.inl j)) (if_neg hj))) $$ [Hat] with Hz
    · isplitr; · iexact HI
      iexact Hat
    iapply hk
    isplitr; · iexact HK
    isplitr [HR]
    · unfold DoneSt
      rw [lo_bigSep, shareLeft_keep c hj]
      isplitl [HO]; · iexact HO
      isplitl [Hrest]; · iexact Hrest
      isplitl [Hx]; · iexact Hx
      isplitl [Hz] <;> iassumption
    iexact HR

end Cert.Exchange

end
-- ==== Proof.Words.lean ====
/-
# Words

The device's place, the offsets and the conditions of the kernel as machine words.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The device's place on the mesh, as the kernel computes it. -/
abbrev place (c : Dev nD) : BitVec 32 := Scalar.remsi (Scalar.divsi (Dev.word c) 1#32) 16#32
/-- The offset of a message. -/
abbrev word (j : Fin 15) : BitVec 32 := BitVec.ofNat 32 (j.val + 1)

/-! The kernel's conditions and device numbers, for all devices and offsets at once. -/

theorem sge_all : ∀ (c : Dev nD) (j : Fin 15), Scalar.cmpi .ne (Scalar.extui (Scalar.cmpi .sge (place c) (word j)) : BitVec 32) 0#32 = 1#1 ↔ j.val < c.val := by
  decide +kernel
theorem slt_all : ∀ (c : Dev nD) (j : Fin 15), Scalar.cmpi .ne (Scalar.extui (Scalar.cmpi .slt (Scalar.addi (place c) (word j)) 16#32) : BitVec 32) 0#32 = 1#1 ↔ c.val + j.val + 1 < 16 := by
  decide +kernel
theorem sge_iff (c : Dev nD) (j : Fin 15) {w : BitVec 32} (hw : w = word j) :
   Scalar.cmpi .ne (Scalar.extui (Scalar.cmpi .sge (place c) w) : BitVec 32) 0#32 = 1#1 ↔ j.val < c.val := by
  rw [hw]; exact sge_all c j
theorem slt_iff (c : Dev nD) (j : Fin 15) {w : BitVec 32} (hw : w = word j) :
   Scalar.cmpi .ne (Scalar.extui (Scalar.cmpi .slt (Scalar.addi (place c) w) 16#32) : BitVec 32) 0#32 = 1#1 ↔ c.val + j.val + 1 < 16 := by
  rw [hw]; exact slt_all c j
theorem dev_dn_all : ∀ (c : Dev nD) (j : Fin 15), j.val < c.val →
    (Scalar.addi 0#32 (Scalar.muli (Scalar.subi (place c) (word j)) 1#32)).toNat = (dn c j).val := by decide +kernel
theorem dev_up_all : ∀ (c : Dev nD) (j : Fin 15), c.val + j.val + 1 < 16 →
    (Scalar.addi 0#32 (Scalar.muli (Scalar.addi (place c) (word j)) 1#32)).toNat = (up c j).val := by decide +kernel
theorem dev_dn (c : Dev nD) (j : Fin 15) {w : BitVec 32} (hw : w = word j) (h : j.val < c.val) {hd} :
    (⟨(Scalar.addi 0#32 (Scalar.muli (Scalar.subi (place c) w) 1#32)).toNat, hd⟩ : Dev nD) = dn c j := by
  subst hw; exact Fin.ext (dev_dn_all c j h)
theorem dev_up (c : Dev nD) (j : Fin 15) {w : BitVec 32} (hw : w = word j) (h : c.val + j.val + 1 < 16) {hd} :
    (⟨(Scalar.addi 0#32 (Scalar.muli (Scalar.addi (place c) w) 1#32)).toNat, hd⟩ : Dev nD) = up c j := by
  subst hw; exact Fin.ext (dev_up_all c j h)

/-- The units the barrier wait asks for: one of every device after this one. -/
theorem amt_all : ∀ c : Dev nD, (k0_amt1 c).toInt = ((15 - c.val : ℕ) : Int) := by decide +kernel

/-- Row `r` of the received rows is used exactly when its sender comes before this device. -/
theorem mask_all : ∀ (c : Dev nD) (r : Fin 15), Scalar.cmpi .slt (BitVec.ofNat 32 r.val) (place c) = if r.val < c.val then 1#1 else 0#1 := by
  decide +kernel

omit [FloatOps F] in
/-- Fifteen rows with an inner axis of one, without that axis. -/
theorem rows_apply {α : Type} (v : S15x1x512.Idx → α) (r : Fin 15) (y : Fin 512) :
    shapeCast S15x512 v shapeCasts_S15x1x512_S15x512 (ValueIdx.ix2 r y) = v (ValueIdx.ix3 r (0 : Fin 1) y) :=
  shapeCast_apply v _ _ _ (by
    rw [Shape.rowMajor_val_three, Shape.rowMajor_val_two]
    show (r.val * 1 + 0) * 512 + y.val = r.val * 512 + y.val
    omega)

/-- The received rows with the rows that don't come from a device before `c` replaced by ones. -/
theorem masked_apply (c : Dev nD) (v : Vec F S15x1x512 .f32) (r : Fin 15) (y : Fin 512) :
    select (cmpi .slt (iota .tc S15x512 32 [0] iota_S15x512_d0_w32) (broadcast S15x512 (place c)))
      (shapeCast S15x512 v shapeCasts_S15x1x512_S15x512) (broadcast S15x512 (Scalar.ofBits .f32 0x3F800000#32 : F .f32)) (ValueIdx.ix2 r y)
      = if r.val < c.val then v (ValueIdx.ix3 r (0 : Fin 1) y) else (Scalar.ofBits .f32 0x3F800000#32 : F .f32) := by
  have e : (cmpi .slt (iota .tc S15x512 32 [0] iota_S15x512_d0_w32) (broadcast S15x512 (place c))) (ValueIdx.ix2 r y)
      = Scalar.cmpi .slt (BitVec.ofNat 32 r.val) (place c) := by
    show Scalar.cmpi .slt (BitVec.ofNat 32 (0 * 15 + r.val)) (place c) = _
    rw [Nat.zero_mul, Nat.zero_add]
  refine (congrArg (fun b => Scalar.select b (shapeCast S15x512 v shapeCasts_S15x1x512_S15x512 (ValueIdx.ix2 r y))
    (Scalar.ofBits .f32 0x3F800000#32 : F .f32)) (e.trans (mask_all c r))).trans ?_
  rw [rows_apply]
  by_cases h : r.val < c.val
  · rw [if_pos h, if_pos h]; rfl
  · rw [if_neg h, if_neg h]; rfl

/-- The masked rows depend only on the rows that come from a device before `c`. -/
theorem pay7_congr (c : Dev nD) (v v' : Vec F S15x1x512 .f32)
    (h : ∀ (r : Fin 15) (y : Fin 512), r.val < c.val → v (ValueIdx.ix3 r (0 : Fin 1) y) = v' (ValueIdx.ix3 r (0 : Fin 1) y)) :
    k0_pay7 (place c) v = k0_pay7 (place c) v' := by
  have e : select (cmpi .slt (iota .tc S15x512 32 [0] iota_S15x512_d0_w32) (broadcast S15x512 (place c)))
      (shapeCast S15x512 v shapeCasts_S15x1x512_S15x512) (broadcast S15x512 (Scalar.ofBits .f32 0x3F800000#32 : F .f32))
    = select (cmpi .slt (iota .tc S15x512 32 [0] iota_S15x512_d0_w32) (broadcast S15x512 (place c)))
      (shapeCast S15x512 v' shapeCasts_S15x1x512_S15x512) (broadcast S15x512 (Scalar.ofBits .f32 0x3F800000#32 : F .f32)) := by
    funext i
    rw [ValueIdx.eq_ix2 i]
    refine (masked_apply c v (i 0) (i 1)).trans (Eq.trans ?_ (masked_apply c v' (i 0) (i 1)).symm)
    by_cases hr : (i 0).val < c.val
    · exact (if_pos hr).trans ((h (i 0) (i 1) hr).trans (if_pos hr).symm)
    · exact (if_neg hr).trans (if_neg hr).symm
  exact congrArg (fun s => concatenate S16x512 0 [⟨S15x512, s⟩, ⟨S1x512, broadcast S1x512 (Scalar.ofBits .f32 0x3F800000#32 : F .f32)⟩]
    concatenates_S15x512_S1x512_S16x512_d0) e

/-- The receive buffer before anything is in it, for stating the result. -/
def blank : (cc0_scratch1 : Ref sig .tc).ty.Contents (Elt F) := fun _ => (Scalar.ofBits .f32 0x3F800000#32 : F .f32)

/-- What device `c` stores, from its block and its receive buffer. -/
def outFrom (c : Dev nD) (f : (cc0_scratch1 : Ref sig .tc).ty.Contents (Elt F)) : Vec F S1024x512 .f32 :=
  k0_pay9 (k0_pay6 (k0_pay5 (k0_pay4 (xstg m ρ c)))) (k0_pay7 (place c) (landed m ρ c f)) (k0_pay8 (place c) (landed m ρ c f))

/-- Device `c`'s result. -/
def outAt (c : Dev nD) : Vec F S1024x512 .f32 := outFrom m ρ c blank

/-- What the receive buffer held at first doesn't show in the result. -/
theorem outFrom_eq (c : Dev nD) (f : (cc0_scratch1 : Ref sig .tc).ty.Contents (Elt F)) : outFrom m ρ c f = outAt m ρ c := by
  have e : k0_pay7 (place c) (landed m ρ c f) = k0_pay7 (place c) (landed m ρ c blank) :=
    pay7_congr c _ _ fun r y h => (if_pos h).trans (if_pos h).symm
  unfold outAt outFrom k0_pay8
  rw [e]

end Cert.Exchange

end
-- ==== Proof.Body.lean ====
/-
# The body

The kernel's body on device `c`, part by part.
-/
module

public import proofs.«01_k».proof.Proof.Words

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

attribute [local irreducible] Scalar.cmpi

variable (K : Dev nD × CK → ℕ) (c : Dev nD)

theorem Wp_bind {α β : Type} (p : Prog (TpuEff nD τ sig (Elt F) Λ₀ .tc) α) (k : α → Prog (TpuEff nD τ sig (Elt F) Λ₀ .tc) β) (Q : β → sProp 𝕄) :
    Wp c (p >>= k) Q = Wp c p (fun a => Wp c (k a) Q) := wp_bind _ _ _ _ _ _

theorem wp_done {A : sProp 𝕄} {α β : Type} {v : α} {k : α → Prog (TpuEff nD τ sig (Elt F) Λ₀ .tc) β} {Q : β → sProp 𝕄} (h : A ⊢ Wp c (k v) Q) :
    A ⊢ Wp c (pure v) (fun a => Wp c (k a) Q) := by
  exact h.trans fupd_intro

/-! ## Reading and writing whole buffers -/

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

abbrev rB : Rect S1024x512 := Rect.unit (s := S1024x512) ![0, 0] S1024x512.size inb_S1024x512_S1024x512_0_0
abbrev rS : Rect S1x512 := Rect.unit (s := S1x512) ![0, 0] S1x512.size inb_S1x512_S1x512_0_0
abbrev rR : Rect S15x1x512 := Rect.unit (s := S15x1x512) ![0, 0, 0] S15x1x512.size inb_S15x1x512_S15x1x512_0_0_0

omit [FloatOps F] in
theorem read_x (f : (cc0_stg0_0 : Ref sig .tc).ty.Contents (Elt F)) : (xM : Memref sig .tc .vmem S1024x512 .f32).view.readAt (Elt F) rB.toLoadRect f = f :=
  Memref.readAt_unit_zero (Elt F) cc0_stg0_0 hz2 _ f
omit [FloatOps F] in
theorem read_r (f : (cc0_scratch1 : Ref sig .tc).ty.Contents (Elt F)) : (rM : Memref sig .tc .vmem S15x1x512 .f32).view.readAt (Elt F) rR.toLoadRect f = f :=
  Memref.readAt_unit_zero (Elt F) cc0_scratch1 hz3 _ f
omit [FloatOps F] in
theorem write_o (f w : (cc0_stg1_0 : Ref sig .tc).ty.Contents (Elt F)) :
    ((oM : Memref sig .tc .vmem S1024x512 .f32).access rB : View sig .tc _ _ _).write (Elt F) f w Finset.univ = w :=
  Memref.write_access_unit_zero_univ (Elt F) cc0_stg1_0 hz2 _ f w
omit [FloatOps F] in
theorem write_s (f w : (cc0_scratch0 : Ref sig .tc).ty.Contents (Elt F)) :
    ((sM : Memref sig .tc .vmem S1x512 .f32).access rS : View sig .tc _ _ _).write (Elt F) f w Finset.univ = w :=
  Memref.write_access_unit_zero_univ (Elt F) cc0_scratch0 hz2 _ f w

/-- Device `c`'s block, staged. -/
def xPts : sProp 𝕄 := ((c : Thread nD τ).loc cc0_stg0_0) ↦{fullShare} (xstg m ρ c)
/-- Device `c`'s staged result holds `g`. -/
def oPts (g : Buf (Elt F) ((c : Thread nD τ).loc cc0_stg1_0)) : sProp 𝕄 := ((c : Thread nD τ).loc cc0_stg1_0) ↦{fullShare} g
/-- Device `c`'s send buffer holds `g`. -/
def sndPts (g : Buf (Elt F) ((c : Thread nD τ).loc cc0_scratch0)) : sProp 𝕄 := ((c : Thread nD τ).loc cc0_scratch0) ↦{fullShare} g
/-- Device `c`'s receive buffer holds `g`. -/
def rcvPts (g : Buf (Elt F) ((c : Thread nD τ).loc cc0_scratch1)) : sProp 𝕄 := ((c : Thread nD τ).loc cc0_scratch1) ↦{fullShare} g

/-- Before the barrier wait: what the wait takes, and the send buffer with anything in it. -/
def WaitSt : sProp 𝕄 :=
  iprop(owing c (ORecv c 15) ∗ atPos ER (barCell c) 0 ∅ 0 ∗ cred (tallyAt (barCell c) () (15 - c.val)) ∗ levAts L lv ∗ (∃ g, sndPts c g))
/-- After it: every later device's slot for this one, and the send buffer with the total in it. -/
def OpenSt : sProp 𝕄 :=
  iprop(owing c (ORecv c 15) ∗ semVal (barCell c) 0
    ∗ (bigSep Finset.univ fun j : Fin 15 => onlyIf (c.val + j.val + 1 < 16) (barPay c j)) ∗ sndPts c (total m ρ c))
/-- All arrivals are in. -/
def GotSt (f : Buf (Elt F) ((c : Thread nD τ).loc cc0_scratch1)) : sProp 𝕄 :=
  iprop(owing c 0 ∗ (bigSep Finset.univ fun j => semVal (recvCell c j) 0) ∗ rcvPts c (landed m ρ c f))

section Signals

variable (f : Buf (Elt F) ((c : Thread nD τ).loc cc0_scratch1))

/-- The first part signals the devices 15 … 8 places before. -/
theorem part1_wp {β : Type} {R : sProp 𝕄} {Q : β → sProp 𝕄} {k : (Σ' (d0 : Dev nD) (v2 : BitVec 32), Sems sig S_) → Prog (TpuEff nD τ sig (Elt F) Λ₀ .tc) β}
    (hk : iprop(records m ρ K ∗ SigSt c f 7 ∗ R) ⊢ Wp c (k ⟨c, place c, SemArray.scalar (sig.barrier 0 rfl)⟩) Q) :
    iprop(records m ρ K ∗ SigSt c f 15 ∗ R)
      ⊢ Wp c (k0_part1 xM (Memref.isWhole_whole _) oM (Memref.isWhole_whole _) sM (Memref.isWhole_whole _) rM (Memref.isWhole_whole _) cc0_scratch2 cc0_scratch3 >>= k) Q := by
  rw [Wp_bind, k0_part1_eq_skeleton]
  unfold k0_part1_skel
  refine BIBase.Entails.trans ?_ (Entails.of_eq (wp_deviceId 𝒱₀ (c : Thread nD τ) _ _).symm)
  refine sig_step m ρ K c f 14 (by exact sge_iff c 14 rfl) (fun h => by exact dev_dn c 14 rfl ((sge_iff c 14 rfl).mp h)) ?_
  refine sig_step m ρ K c f 13 (by exact sge_iff c 13 rfl) (fun h => by exact dev_dn c 13 rfl ((sge_iff c 13 rfl).mp h)) ?_
  refine sig_step m ρ K c f 12 (by exact sge_iff c 12 rfl) (fun h => by exact dev_dn c 12 rfl ((sge_iff c 12 rfl).mp h)) ?_
  refine sig_step m ρ K c f 11 (by exact sge_iff c 11 rfl) (fun h => by exact dev_dn c 11 rfl ((sge_iff c 11 rfl).mp h)) ?_
  refine sig_step m ρ K c f 10 (by exact sge_iff c 10 rfl) (fun h => by exact dev_dn c 10 rfl ((sge_iff c 10 rfl).mp h)) ?_
  refine sig_step m ρ K c f 9 (by exact sge_iff c 9 rfl) (fun h => by exact dev_dn c 9 rfl ((sge_iff c 9 rfl).mp h)) ?_
  refine sig_step m ρ K c f 8 (by exact sge_iff c 8 rfl) (fun h => by exact dev_dn c 8 rfl ((sge_iff c 8 rfl).mp h)) ?_
  refine sig_step m ρ K c f 7 (by exact sge_iff c 7 rfl) (fun h => by exact dev_dn c 7 rfl ((sge_iff c 7 rfl).mp h)) ?_
  exact wp_done c hk

/-- The second signals the devices 7 … 1 places before and reads the block. -/
theorem part2_wp {β : Type} {R : sProp 𝕄} {Q : β → sProp 𝕄} {k : (Σ' (v68 : FVec F S16x512 .f32), FVec F S8x512 .f32) → Prog (TpuEff nD τ sig (Elt F) Λ₀ .tc) β}
    (hk : iprop(records m ρ K ∗ SigSt c f 0 ∗ xPts m ρ c ∗ R) ⊢ Wp c (k ⟨k0_pay1 (xstg m ρ c), k0_pay2 (xstg m ρ c)⟩) Q) :
    iprop(records m ρ K ∗ SigSt c f 7 ∗ xPts m ρ c ∗ R)
      ⊢ Wp c (k0_part2 xM (Memref.isWhole_whole _) oM (Memref.isWhole_whole _) sM (Memref.isWhole_whole _) rM (Memref.isWhole_whole _) cc0_scratch2 cc0_scratch3 c (place c) (SemArray.scalar (sig.barrier 0 rfl)) >>= k) Q := by
  rw [Wp_bind, k0_part2_eq_skeleton]
  unfold k0_part2_skel
  refine sig_step m ρ K c f 6 (by exact sge_iff c 6 rfl) (fun h => by exact dev_dn c 6 rfl ((sge_iff c 6 rfl).mp h)) ?_
  refine sig_step m ρ K c f 5 (by exact sge_iff c 5 rfl) (fun h => by exact dev_dn c 5 rfl ((sge_iff c 5 rfl).mp h)) ?_
  refine sig_step m ρ K c f 4 (by exact sge_iff c 4 rfl) (fun h => by exact dev_dn c 4 rfl ((sge_iff c 4 rfl).mp h)) ?_
  refine sig_step m ρ K c f 3 (by exact sge_iff c 3 rfl) (fun h => by exact dev_dn c 3 rfl ((sge_iff c 3 rfl).mp h)) ?_
  refine sig_step m ρ K c f 2 (by exact sge_iff c 2 rfl) (fun h => by exact dev_dn c 2 rfl ((sge_iff c 2 rfl).mp h)) ?_
  refine sig_step m ρ K c f 1 (by exact sge_iff c 1 rfl) (fun h => by exact dev_dn c 1 rfl ((sge_iff c 1 rfl).mp h)) ?_
  refine sig_step m ρ K c f 0 (by exact sge_iff c 0 rfl) (fun h => by exact dev_dn c 0 rfl ((sge_iff c 0 rfl).mp h)) ?_
  unfold xPts at hk ⊢
  simp only [Prog.lift, Prog.bind_op, Prog.bind_ret, Prog.pure_eq_ret]
  iintro ⟨#HK, HS, Hx, HR⟩
  iapply (wp_load 𝒱₀ (c : Thread nD τ) none Set.univ (m := xM) (Finset.subset_univ _)) $$ Hx; iintro Hx
  rw [read_x, wp_ret]
  imodintro
  iapply hk
  isplitr; · iexact HK
  isplitl [HS]; · iexact HS
  isplitl [Hx] <;> iassumption

end Signals

/-- The third stores the total, computes the first steps of the scan and waits for all later devices. -/
theorem part3_wp {β : Type} {R : sProp 𝕄} {Q : β → sProp 𝕄} {k : (Σ' (v109 : FVec F S1024x512 .f32), BitVec 32) → Prog (TpuEff nD τ sig (Elt F) Λ₀ .tc) β}
    (hk : iprop(records m ρ K ∗ OpenSt m ρ c ∗ xPts m ρ c ∗ R) ⊢ Wp c (k ⟨k0_pay4 (xstg m ρ c), Scalar.extui (Scalar.cmpi .slt (Scalar.addi (place c) 15#32) 16#32)⟩) Q) :
    iprop(records m ρ K ∗ WaitSt c ∗ xPts m ρ c ∗ R)
      ⊢ Wp c (k0_part3 xM (Memref.isWhole_whole _) oM (Memref.isWhole_whole _) sM (Memref.isWhole_whole _) rM (Memref.isWhole_whole _) cc0_scratch2 cc0_scratch3 c (place c) (SemArray.scalar (sig.barrier 0 rfl)) (k0_pay1 (xstg m ρ c)) (k0_pay2 (xstg m ρ c)) >>= k) Q := by
  rw [Wp_bind, k0_part3_eq_skeleton]
  unfold k0_part3_skel
  unfold xPts WaitSt OpenSt owing sndPts at *
  simp only [semWaitWord, Prog.lift, Prog.bind_op, Prog.bind_ret, Prog.pure_eq_ret]
  rw [amt_all c]
  iintro ⟨#HK, ⟨⟨%W, HO⟩, Hat, Hc, #Hlev, ⟨%g, Hs⟩⟩, Hx, HR⟩
  ihave #HI := (inv_at m ρ K (c, .inl ())) $$ HK
  iapply (wp_load 𝒱₀ (c : Thread nD τ) none Set.univ (m := sM) (Finset.subset_univ _)) $$ Hs; iintro Hs
  iapply (wp_store 𝒱₀ (c : Thread nD τ) none Set.univ (m := sM) (r := rS) (Mk := Finset.univ) (Finset.subset_univ _)) $$ Hs; iintro Hs
  rw [write_s]
  iapply (wp_load 𝒱₀ (c : Thread nD τ) none Set.univ (m := xM) (Finset.subset_univ _)) $$ Hx; iintro Hx
  rw [read_x]
  iapply (Rounds.wp_wait_rest_token 𝒱₀ ER (Rd m ρ) (c : Thread nD τ) none (κ := K (c, .inl ()))
    (wpE_semWait_eq 𝒱₀ (c : Thread nD τ) none Set.univ) (Set.mem_univ _) () (O := ORecv c 15) (W := W) (R := 0) (m := 0) (T := ∅)
    (by rw [Nat.zero_add]; exact (expect_bar m ρ c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, .inl ()))) (fun h => h) (R := 0 + 1) (duties_later m ρ (barCell c))) $$ [Hat] with Hz
  · isplitr; · iexact HI
    iexact Hat
  rw [wp_ret]
  imodintro
  iapply hk
  isplitr; · iexact HK
  isplitl [HO Hz Hp Hs]
  · isplitl [HO]; · iexists _; iexact HO
    isplitl [Hz]; · iexact Hz
    isplitl [Hp]; · iexact Hp
    iexact Hs
  isplitl [Hx] <;> iassumption

/-- The fourth sends to the devices 15 … 8 places after. -/
theorem part4_wp {β : Type} {R : sProp 𝕄} {Q : β → sProp 𝕄} {v113 : BitVec 32} {k : BitVec 32 → Prog (TpuEff nD τ sig (Elt F) Λ₀ .tc) β}
    (hk : iprop(records m ρ K ∗ SendSt m ρ c 7 ∗ R) ⊢ Wp c (k 7#32) Q) :
    iprop(records m ρ K ∗ SendSt m ρ c 15 ∗ R)
      ⊢ Wp c (k0_part4 xM (Memref.isWhole_whole _) oM (Memref.isWhole_whole _) sM (Memref.isWhole_whole _) rM (Memref.isWhole_whole _) cc0_scratch2 cc0_scratch3 c (place c) v113 >>= k) Q := by
  rw [Wp_bind, k0_part4_eq_skeleton]
  unfold k0_part4_skel
  refine send_step m ρ K c 14 (p := k0_cond16 c = 1#1) (dev := fun h => ⟨k0_dev16 c, k0_dev16_lt c h⟩) ?_ ?_ ?_
  · exact slt_iff c 14 rfl
  · exact fun h => dev_up c 14 rfl ((slt_iff c 14 rfl).mp h)
  refine send_step m ρ K c 13 (p := k0_cond17 c = 1#1) (dev := fun h => ⟨k0_dev17 c, k0_dev17_lt c h⟩) ?_ ?_ ?_
  · exact slt_iff c 13 rfl
  · exact fun h => dev_up c 13 rfl ((slt_iff c 13 rfl).mp h)
  refine send_step m ρ K c 12 (p := k0_cond18 c = 1#1) (dev := fun h => ⟨k0_dev18 c, k0_dev18_lt c h⟩) ?_ ?_ ?_
  · exact slt_iff c 12 rfl
  · exact fun h => dev_up c 12 rfl ((slt_iff c 12 rfl).mp h)
  refine send_step m ρ K c 11 (p := k0_cond19 c = 1#1) (dev := fun h => ⟨k0_dev19 c, k0_dev19_lt c h⟩) ?_ ?_ ?_
  · exact slt_iff c 11 rfl
  · exact fun h => dev_up c 11 rfl ((slt_iff c 11 rfl).mp h)
  refine send_step m ρ K c 10 (p := k0_cond20 c = 1#1) (dev := fun h => ⟨k0_dev20 c, k0_dev20_lt c h⟩) ?_ ?_ ?_
  · exact slt_iff c 10 rfl
  · exact fun h => dev_up c 10 rfl ((slt_iff c 10 rfl).mp h)
  refine send_step m ρ K c 9 (p := k0_cond21 c = 1#1) (dev := fun h => ⟨k0_dev21 c, k0_dev21_lt c h⟩) ?_ ?_ ?_
  · exact slt_iff c 9 rfl
  · exact fun h => dev_up c 9 rfl ((slt_iff c 9 rfl).mp h)
  refine send_step m ρ K c 8 (p := k0_cond22 c = 1#1) (dev := fun h => ⟨k0_dev22 c, k0_dev22_lt c h⟩) ?_ ?_ ?_
  · exact slt_iff c 8 rfl
  · exact fun h => dev_up c 8 rfl ((slt_iff c 8 rfl).mp h)
  refine send_step m ρ K c 7 (p := k0_cond23 c = 1#1) (dev := fun h => ⟨k0_dev23 c, k0_dev23_lt c h⟩) ?_ ?_ ?_
  · exact slt_iff c 7 rfl
  · exact fun h => dev_up c 7 rfl ((slt_iff c 7 rfl).mp h)
  exact wp_done c hk

/-- The fifth sends to the devices 7 … 1 places after and computes a step of the scan. -/
theorem part5_wp {β : Type} {R : sProp 𝕄} {Q : β → sProp 𝕄} {v109 : FVec F S1024x512 .f32} {w : BitVec 32} {k : FVec F S1024x512 .f32 → Prog (TpuEff nD τ sig (Elt F) Λ₀ .tc) β}
    (hk : iprop(records m ρ K ∗ SendSt m ρ c 0 ∗ R) ⊢ Wp c (k (k0_pay5 v109)) Q) :
    iprop(records m ρ K ∗ SendSt m ρ c 7 ∗ R)
      ⊢ Wp c (k0_part5 xM (Memref.isWhole_whole _) oM (Memref.isWhole_whole _) sM (Memref.isWhole_whole _) rM (Memref.isWhole_whole _) cc0_scratch2 cc0_scratch3 c (place c) v109 w >>= k) Q := by
  rw [Wp_bind, k0_part5_eq_skeleton]
  unfold k0_part5_skel
  refine send_step m ρ K c 6 (p := k0_cond24 c = 1#1) (dev := fun h => ⟨k0_dev24 c, k0_dev24_lt c h⟩) ?_ ?_ ?_
  · exact slt_iff c 6 rfl
  · exact fun h => dev_up c 6 rfl ((slt_iff c 6 rfl).mp h)
  refine send_step m ρ K c 5 (p := k0_cond25 c = 1#1) (dev := fun h => ⟨k0_dev25 c, k0_dev25_lt c h⟩) ?_ ?_ ?_
  · exact slt_iff c 5 rfl
  · exact fun h => dev_up c 5 rfl ((slt_iff c 5 rfl).mp h)
  refine send_step m ρ K c 4 (p := k0_cond26 c = 1#1) (dev := fun h => ⟨k0_dev26 c, k0_dev26_lt c h⟩) ?_ ?_ ?_
  · exact slt_iff c 4 rfl
  · exact fun h => dev_up c 4 rfl ((slt_iff c 4 rfl).mp h)
  refine send_step m ρ K c 3 (p := k0_cond27 c = 1#1) (dev := fun h => ⟨k0_dev27 c, k0_dev27_lt c h⟩) ?_ ?_ ?_
  · exact slt_iff c 3 rfl
  · exact fun h => dev_up c 3 rfl ((slt_iff c 3 rfl).mp h)
  refine send_step m ρ K c 2 (p := k0_cond28 c = 1#1) (dev := fun h => ⟨k0_dev28 c, k0_dev28_lt c h⟩) ?_ ?_ ?_
  · exact slt_iff c 2 rfl
  · exact fun h => dev_up c 2 rfl ((slt_iff c 2 rfl).mp h)
  refine send_step m ρ K c 1 (p := k0_cond29 c = 1#1) (dev := fun h => ⟨k0_dev29 c, k0_dev29_lt c h⟩) ?_ ?_ ?_
  · exact slt_iff c 1 rfl
  · exact fun h => dev_up c 1 rfl ((slt_iff c 1 rfl).mp h)
  refine send_step m ρ K c 0 (p := k0_cond30 c = 1#1) (dev := fun h => ⟨k0_dev30 c, k0_dev30_lt c h⟩) ?_ ?_ ?_
  · exact slt_iff c 0 rfl
  · exact fun h => dev_up c 0 rfl ((slt_iff c 0 rfl).mp h)
  exact wp_done c hk

section Arrivals

variable (f : Buf (Elt F) ((c : Thread nD τ).loc cc0_scratch1))

/-- The sixth computes the rest of the scan and waits for the arrivals of the first seven slots. -/
theorem part6_wp {β : Type} {R : sProp 𝕄} {Q : β → sProp 𝕄} {v174 : FVec F S1024x512 .f32} {k : (Σ' (v186 : FVec F S1024x512 .f32), BitVec 32) → Prog (TpuEff nD τ sig (Elt F) Λ₀ .tc) β}
    (hk : iprop(records m ρ K ∗ RecvSt m ρ c f 7 ∗ R) ⊢ Wp c (k ⟨k0_pay6 v174, Scalar.extui (Scalar.cmpi .sge (place c) 8#32)⟩) Q) :
    iprop(records m ρ K ∗ RecvSt m ρ c f 0 ∗ R)
      ⊢ Wp c (k0_part6 xM (Memref.isWhole_whole _) oM (Memref.isWhole_whole _) sM (Memref.isWhole_whole _) rM (Memref.isWhole_whole _) cc0_scratch2 cc0_scratch3 (place c) v174 >>= k) Q := by
  rw [Wp_bind, k0_part6_eq_skeleton]
  unfold k0_part6_skel
  refine recv_step m ρ K c f 0 (by exact sge_iff c 0 rfl) ?_
  refine recv_step m ρ K c f 1 (by exact sge_iff c 1 rfl) ?_
  refine recv_step m ρ K c f 2 (by exact sge_iff c 2 rfl) ?_
  refine recv_step m ρ K c f 3 (by exact sge_iff c 3 rfl) ?_
  refine recv_step m ρ K c f 4 (by exact sge_iff c 4 rfl) ?_
  refine recv_step m ρ K c f 5 (by exact sge_iff c 5 rfl) ?_
  refine recv_step m ρ K c f 6 (by exact sge_iff c 6 rfl) ?_
  exact wp_done c hk

/-- The seventh waits for the other arrivals and reads the receive buffer. -/
theorem part7_wp {β : Type} {R : sProp 𝕄} {Q : β → sProp 𝕄} {k : (Σ' (v240 : FVec F S16x512 .f32), FVec F S8x512 .f32) → Prog (TpuEff nD τ sig (Elt F) Λ₀ .tc) β}
    (hk : iprop(records m ρ K ∗ GotSt m ρ c f ∗ R) ⊢ Wp c (k ⟨k0_pay7 (place c) (landed m ρ c f), k0_pay8 (place c) (landed m ρ c f)⟩) Q) :
    iprop(records m ρ K ∗ RecvSt m ρ c f 7 ∗ R)
      ⊢ Wp c (k0_part7 xM (Memref.isWhole_whole _) oM (Memref.isWhole_whole _) sM (Memref.isWhole_whole _) rM (Memref.isWhole_whole _) cc0_scratch2 cc0_scratch3 (place c) (Scalar.extui (Scalar.cmpi .sge (place c) 8#32)) >>= k) Q := by
  rw [Wp_bind, k0_part7_eq_skeleton]
  unfold k0_part7_skel
  refine recv_step m ρ K c f 7 (by exact sge_iff c 7 rfl) ?_
  refine recv_step m ρ K c f 8 (by exact sge_iff c 8 rfl) ?_
  refine recv_step m ρ K c f 9 (by exact sge_iff c 9 rfl) ?_
  refine recv_step m ρ K c f 10 (by exact sge_iff c 10 rfl) ?_
  refine recv_step m ρ K c f 11 (by exact sge_iff c 11 rfl) ?_
  refine recv_step m ρ K c f 12 (by exact sge_iff c 12 rfl) ?_
  refine recv_step m ρ K c f 13 (by exact sge_iff c 13 rfl) ?_
  refine recv_step m ρ K c f 14 (by exact sge_iff c 14 rfl) ?_
  have e : RecvSt m ρ c f 15 = iprop(owing c 0 ∗ iprop(emp) ∗ ((bigSep Finset.univ fun j => semVal (recvCell c j) 0) ∗ rcvPts c (landed m ρ c f))) := by
    unfold RecvSt rcvPts
    rw [hi_all, lo_all, slots_eq, bigSep_empty, bigSep_sep']
    rfl
  rw [show RecvSt m ρ c f ((14 : Fin 15).val + 1) = _ from e]
  unfold GotSt rcvPts at *
  simp only [Prog.lift, Prog.bind_op, Prog.bind_ret, Prog.pure_eq_ret]
  iintro ⟨#HK, ⟨HO, -, Hz, Hr⟩, HR⟩
  iapply (wp_load 𝒱₀ (c : Thread nD τ) none Set.univ (m := rM) (Finset.subset_univ _)) $$ Hr; iintro Hr
  rw [read_r, wp_ret]
  imodintro
  iapply hk
  isplitr; · iexact HK
  isplitr [HR]
  · isplitl [HO]; · iexact HO
    isplitl [Hz] <;> iassumption
  iexact HR

end Arrivals

/-- Reading the result's staging buffer, whose value isn't used, and storing the result there. -/
theorem store_step {β : Type} {S R : sProp 𝕄} {Q : β → sProp 𝕄} {w : FVec F S1024x512 .f32} {r : Prog (TpuEff nD τ sig (Elt F) Λ₀ .tc) β}
    (hk : iprop(records m ρ K ∗ S ∗ oPts c w ∗ R) ⊢ Wp c r Q) :
    iprop(records m ρ K ∗ S ∗ (∃ g, oPts c g) ∗ R)
      ⊢ Wp c (Prog.lift (.load oM rB.toLoadRect (View.loadsAt_vmem h_S1024x512))
          >>= fun _ => Prog.lift (.store oM rB w Finset.univ (View.stores_vmem_bits_univ h_S1024x512 rfl) (.inl rfl)) >>= fun _ => r) Q := by
  unfold oPts at *
  simp only [Prog.lift, Prog.bind_op, Prog.bind_ret]
  iintro ⟨#HK, HS, ⟨%g, Ho⟩, HR⟩
  iapply (wp_load 𝒱₀ (c : Thread nD τ) none Set.univ (m := oM) (Finset.subset_univ _)) $$ Ho; iintro Ho
  iapply (wp_store 𝒱₀ (c : Thread nD τ) none Set.univ (m := oM) (r := rB) (Mk := Finset.univ) (Finset.subset_univ _)) $$ Ho; iintro Ho
  rw [write_o]
  iapply hk
  isplitr; · iexact HK
  isplitl [HS]; · iexact HS
  isplitl [Ho] <;> iassumption

/-- The eighth stores the result and waits for the first five departures. -/
theorem part8_wp {β : Type} {R : sProp 𝕄} {Q : β → sProp 𝕄} {y : FVec F S1024x512 .f32} {w : FVec F S16x512 .f32} {w' : FVec F S8x512 .f32} {k : (Σ' (v276 : BitVec 32), BitVec 32) → Prog (TpuEff nD τ sig (Elt F) Λ₀ .tc) β}
    (hk : iprop(records m ρ K ∗ DoneSt m ρ c 5 ∗ oPts c (k0_pay9 y w w') ∗ R) ⊢ Wp c (k ⟨Scalar.addi (place c) 6#32, 16#32⟩) Q) :
    iprop(records m ρ K ∗ DoneSt m ρ c 0 ∗ (∃ g, oPts c g) ∗ R)
      ⊢ Wp c (k0_part8 xM (Memref.isWhole_whole _) oM (Memref.isWhole_whole _) sM (Memref.isWhole_whole _) rM (Memref.isWhole_whole _) cc0_scratch2 cc0_scratch3 (place c) y w w' >>= k) Q := by
  rw [Wp_bind, k0_part8_eq_skeleton]
  unfold k0_part8_skel
  refine store_step m ρ K c ?_
  refine done_step m ρ K c 0 (by exact slt_iff c 0 rfl) ?_
  refine done_step m ρ K c 1 (by exact slt_iff c 1 rfl) ?_
  refine done_step m ρ K c 2 (by exact slt_iff c 2 rfl) ?_
  refine done_step m ρ K c 3 (by exact slt_iff c 3 rfl) ?_
  refine done_step m ρ K c 4 (by exact slt_iff c 4 rfl) ?_
  exact wp_done c hk

/-- The ninth waits for the next seven departures. -/
theorem part9_wp {β : Type} {R : sProp 𝕄} {Q : β → sProp 𝕄} {k : BitVec 1 → Prog (TpuEff nD τ sig (Elt F) Λ₀ .tc) β}
    (hk : iprop(records m ρ K ∗ DoneSt m ρ c 12 ∗ R) ⊢ Wp c (k (Scalar.cmpi .ne (Scalar.extui (Scalar.cmpi .slt (Scalar.addi (place c) 13#32) 16#32)) 0#32)) Q) :
    iprop(records m ρ K ∗ DoneSt m ρ c 5 ∗ R)
      ⊢ Wp c (k0_part9 xM (Memref.isWhole_whole _) oM (Memref.isWhole_whole _) sM (Memref.isWhole_whole _) rM (Memref.isWhole_whole _) cc0_scratch2 cc0_scratch3 (place c) (Scalar.addi (place c) 6#32) 16#32 >>= k) Q := by
  rw [Wp_bind, k0_part9_eq_skeleton]
  unfold k0_part9_skel
  refine done_step m ρ K c 5 (by exact slt_iff c 5 rfl) ?_
  refine done_step m ρ K c 6 (by exact slt_iff c 6 rfl) ?_
  refine done_step m ρ K c 7 (by exact slt_iff c 7 rfl) ?_
  refine done_step m ρ K c 8 (by exact slt_iff c 8 rfl) ?_
  refine done_step m ρ K c 9 (by exact slt_iff c 9 rfl) ?_
  refine done_step m ρ K c 10 (by exact slt_iff c 10 rfl) ?_
  refine done_step m ρ K c 11 (by exact slt_iff c 11 rfl) ?_
  exact wp_done c hk

/-- Before the body: what is owed, the tokens of the messages this device sends, the slots it hands over, and its buffers. -/
def BodyPre (f : Buf (Elt F) ((c : Thread nD τ).loc cc0_scratch1)) : sProp 𝕄 :=
  iprop(owing c (OSig c 15)
    ∗ (bigSep Finset.univ fun j : Fin 15 => onlyIf (j.val < c.val) iprop(dutyTok ER (barCell (dn c j)) 0 j ∗ slotPts c j f))
    ∗ (bigSep Finset.univ fun j : Fin 15 => onlyIf (c.val + j.val + 1 < 16) iprop(dutyTok ER (sendCell c j) 0 j ∗ dutyTok ER (recvCell (up c j) j) 0 j))
    ∗ (bigSep Finset.univ fun j : Fin 15 => iprop(atPos ER (recvCell c j) 0 ∅ 0 ∗ if j.val < c.val then cred (tallyAt (recvCell c j) () N) else slotPts c j f))
    ∗ (bigSep Finset.univ fun j : Fin 15 => atPos ER (sendCell c j) 0 ∅ 0)
    ∗ atPos ER (barCell c) 0 ∅ 0 ∗ cred (tallyAt (barCell c) () (15 - c.val)) ∗ levAts L lv ∗ (∃ g, sndPts c g)
    ∗ xPts m ρ c ∗ ∃ g, oPts c g)
/-- After it: nothing is owed, all cells are closed, the result is stored. -/
def BodyPost (f : Buf (Elt F) ((c : Thread nD τ).loc cc0_scratch1)) : sProp 𝕄 :=
  iprop(owing c 0 ∗ semVal (barCell c) 0 ∗ (bigSep Finset.univ fun j => semVal (sendCell c j) 0) ∗ (bigSep Finset.univ fun j => semVal (recvCell c j) 0)
    ∗ sndPts c (total m ρ c) ∗ rcvPts c (landed m ρ c f) ∗ xPts m ρ c ∗ oPts c (outAt m ρ c))

/-- The whole body. -/
theorem body_wp (f : Buf (Elt F) ((c : Thread nD τ).loc cc0_scratch1)) :
    iprop(records m ρ K ∗ BodyPre m ρ c f) ⊢ Wp c (cc0_body xM (Memref.isWhole_whole _) oM (Memref.isWhole_whole _) sM (Memref.isWhole_whole _) rM (Memref.isWhole_whole _) cc0_scratch2 cc0_scratch3) (fun _ => BodyPost m ρ c f) := by
  rw [cc0_body_eq_skeleton]
  unfold cc0_body_skel
  -- the signals
  let R₁ : sProp 𝕄 := iprop((bigSep Finset.univ fun j : Fin 15 => onlyIf (c.val + j.val + 1 < 16) iprop(dutyTok ER (sendCell c j) 0 j ∗ dutyTok ER (recvCell (up c j) j) 0 j))
    ∗ (bigSep Finset.univ fun j : Fin 15 => iprop(atPos ER (recvCell c j) 0 ∅ 0 ∗ if j.val < c.val then cred (tallyAt (recvCell c j) () N) else slotPts c j f))
    ∗ (bigSep Finset.univ fun j : Fin 15 => atPos ER (sendCell c j) 0 ∅ 0)
    ∗ (∃ g, oPts c g))
  let R₀ : sProp 𝕄 := iprop(atPos ER (barCell c) 0 ∅ 0 ∗ cred (tallyAt (barCell c) () (15 - c.val)) ∗ levAts L lv ∗ (∃ g, sndPts c g))
  refine BIBase.Entails.trans (Q := iprop(records m ρ K ∗ SigSt c f 15 ∗ xPts m ρ c ∗ R₀ ∗ R₁)) ?_ ?_
  · unfold BodyPre SigSt
    rw [lo_all]
    iintro ⟨#HK, H1, H2, H3, H4, H5, H6, H7, H8, H9, Hx, Ho⟩
    isplitr; · iexact HK
    isplitl [H1 H2]; · isplitl [H1] <;> iassumption
    isplitl [Hx]; · iexact Hx
    isplitl [H6 H7 H8 H9]
    · isplitl [H6]; · iexact H6
      isplitl [H7]; · iexact H7
      isplitl [H8] <;> iassumption
    isplitl [H3]; · iexact H3
    isplitl [H4]; · iexact H4
    isplitl [H5] <;> iassumption
  refine part1_wp m ρ K c f ?_
  refine part2_wp m ρ K c f ?_
  -- the barrier
  refine BIBase.Entails.trans (Q := iprop(records m ρ K ∗ WaitSt c ∗ xPts m ρ c ∗ R₁)) ?_ ?_
  · unfold SigSt WaitSt
    rw [OSig_zero]
    iintro ⟨#HK, ⟨HO, -⟩, Hx, H0, H1⟩
    isplitr; · iexact HK
    isplitl [HO H0]; · isplitl [HO] <;> iassumption
    isplitl [Hx] <;> iassumption
  refine part3_wp m ρ K c ?_
  -- the copies
  let R₂ : sProp 𝕄 := iprop((bigSep Finset.univ fun j : Fin 15 => iprop(atPos ER (recvCell c j) 0 ∅ 0 ∗ if j.val < c.val then cred (tallyAt (recvCell c j) () N) else slotPts c j f))
    ∗ (bigSep Finset.univ fun j : Fin 15 => atPos ER (sendCell c j) 0 ∅ 0)
    ∗ (∃ g, oPts c g) ∗ semVal (barCell c) 0 ∗ xPts m ρ c)
  refine BIBase.Entails.trans (Q := iprop(records m ρ K ∗ SendSt m ρ c 15 ∗ R₂)) ?_ ?_
  · have e : (bigSep Finset.univ fun j : Fin 15 => onlyIf (c.val + j.val + 1 < 16)
          iprop(dutyTok ER (sendCell c j) 0 j ∗ dutyTok ER (recvCell (up c j) j) 0 j ∗ barPay c j) : sProp 𝕄)
        = iprop((bigSep Finset.univ fun j : Fin 15 => onlyIf (c.val + j.val + 1 < 16) iprop(dutyTok ER (sendCell c j) 0 j ∗ dutyTok ER (recvCell (up c j) j) 0 j))
          ∗ bigSep Finset.univ fun j : Fin 15 => onlyIf (c.val + j.val + 1 < 16) (barPay c j)) := by
      rw [← bigSep_sep']
      refine bigSep_congr fun j _ => ?_
      by_cases h : c.val + j.val + 1 < 16
      · rw [onlyIf_pos h, onlyIf_pos h, onlyIf_pos h]; exact (equiv_iff.mp ⟨BI.sep_assoc, BI.sep_assoc'⟩).symm
      · rw [onlyIf_neg h, onlyIf_neg h, onlyIf_neg h, emp_sep_eq]
    have e' : shareLeft c 15 = fullShare := by
      unfold shareLeft; rw [show 15 - c.val - 15 = 0 by omega]; rfl
    unfold OpenSt SendSt sndPts
    rw [lo_all, hi_all, bigSep_empty, e, e', sPts_eq]
    iintro ⟨#HK, ⟨HO, Hz, Hb, Hs⟩, Hx, Ht, H4, H5, Ho⟩
    isplitr; · iexact HK
    isplitl [HO Hb Ht Hs]
    · isplitl [HO]; · iexact HO
      isplitl [Ht Hb]; · isplitl [Ht] <;> iassumption
      isplitl [Hs]; · iexact Hs
      iempintro
    isplitl [H4]; · iexact H4
    isplitl [H5]; · iexact H5
    isplitl [Ho]; · iexact Ho
    isplitl [Hz] <;> iassumption
  refine part4_wp m ρ K c ?_
  refine part5_wp m ρ K c ?_
  -- the arrivals
  let R₃ : sProp 𝕄 := iprop((bigSep Finset.univ fun j : Fin 15 => onlyIf (c.val + j.val + 1 < 16) (cred (tallyAt (sendCell c j) () N)))
    ∗ (bigSep Finset.univ fun j : Fin 15 => atPos ER (sendCell c j) 0 ∅ 0) ∗ sPts c (shareLeft c 0) (total m ρ c)
    ∗ (∃ g, oPts c g) ∗ semVal (barCell c) 0 ∗ xPts m ρ c)
  refine BIBase.Entails.trans (Q := iprop(records m ρ K ∗ RecvSt m ρ c f 0 ∗ R₃)) ?_ ?_
  · unfold SendSt RecvSt
    rw [lo_zero, hi_zero, bigSep_empty, bigSep_empty, ORecv_zero]
    iintro ⟨#HK, ⟨HO, -, Hs, Hc⟩, H4, H5, Hrest⟩
    isplitr; · iexact HK
    isplitl [HO H4]
    · isplitl [HO]; · iexact HO
      isplitl [H4]; · iexact H4
      iempintro
    isplitl [Hc]; · iexact Hc
    isplitl [H5]; · iexact H5
    isplitl [Hs] <;> iassumption
  refine part6_wp m ρ K c f ?_
  refine part7_wp m ρ K c f ?_
  -- the result and the departures
  let R₄ : sProp 𝕄 := iprop((bigSep Finset.univ fun j => semVal (recvCell c j) 0) ∗ rcvPts c (landed m ρ c f) ∗ semVal (barCell c) 0 ∗ xPts m ρ c)
  refine BIBase.Entails.trans (Q := iprop(records m ρ K ∗ DoneSt m ρ c 0 ∗ (∃ g, oPts c g) ∗ R₄)) ?_ ?_
  · unfold GotSt DoneSt
    rw [lo_zero, hi_zero, bigSep_empty, bigSep_sep']
    iintro ⟨#HK, ⟨HO, Hz, Hr⟩, Hc, H5, Hs, Ho, Hb, Hx⟩
    isplitr; · iexact HK
    isplitl [HO Hc H5 Hs]
    · isplitl [HO]; · iexact HO
      isplitl [H5 Hc]; · isplitl [H5] <;> iassumption
      isplitl [Hs]; · iexact Hs
      iempintro
    isplitl [Ho]; · iexact Ho
    isplitl [Hz]; · iexact Hz
    isplitl [Hr]; · iexact Hr
    isplitl [Hb] <;> iassumption
  refine part8_wp m ρ K c ?_
  refine part9_wp m ρ K c ?_
  refine done_step m ρ K c 12 (by exact slt_iff c 12 rfl) ?_
  refine done_step m ρ K c 13 (by exact slt_iff c 13 rfl) ?_
  refine done_step m ρ K c 14 (by exact slt_iff c 14 rfl) ?_
  refine BIBase.Entails.trans (Q := BodyPost m ρ c f) ?_ fupd_intro
  have e : shareLeft c ((14 : Fin 15).val + 1) = fullShare := by
    unfold shareLeft; rw [show 15 - c.val - ((14 : Fin 15).val + 1) = 0 from by show 15 - c.val - 15 = 0; omega]; rfl
  have e' : k0_pay9 (k0_pay6 (k0_pay5 (k0_pay4 (xstg m ρ c)))) (k0_pay7 (place c) (landed m ρ c f)) (k0_pay8 (place c) (landed m ρ c f)) = outAt m ρ c :=
    outFrom_eq m ρ c f
  unfold DoneSt BodyPost sndPts
  rw [show lo ((14 : Fin 15).val + 1) = Finset.univ from lo_all, show hi ((14 : Fin 15).val + 1) = ∅ from hi_all, bigSep_empty, e, e', sPts_eq]
  iintro ⟨-, ⟨HO, -, Hs, Hd⟩, Ho, Hz, Hr, Hb, Hx⟩
  isplitl [HO]; · iexact HO
  isplitl [Hb]; · iexact Hb
  isplitl [Hd]; · iexact Hd
  isplitl [Hz]; · iexact Hz
  isplitl [Hs]; · iexact Hs
  isplitl [Hr]; · iexact Hr
  isplitl [Hx] <;> iassumption

end Cert.Exchange

end
-- ==== Proof.Point.lean ====
/-
# The one grid point

What the pipeline holds before and after the kernel's only grid point, and that the body takes one to the other.
-/
module

public import proofs.«01_k».proof.Proof.Body
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tokens of the duties that device `c` pays. -/
def payToks (c : Dev nD) : sProp 𝕄 :=
  iprop((bigSep Finset.univ fun j : Fin 15 => onlyIf (j.val < c.val) (dutyTok ER (barCell (dn c j)) 0 j))
    ∗ bigSep Finset.univ fun j : Fin 15 => onlyIf (c.val + j.val + 1 < 16) iprop(dutyTok ER (sendCell c j) 0 j ∗ dutyTok ER (recvCell (up c j) j) 0 j))
/-- The positions at device `c`'s own cells. -/
def positions (c : Dev nD) : sProp 𝕄 :=
  iprop(atPos ER (barCell c) 0 ∅ 0 ∗ (bigSep Finset.univ fun j => atPos ER (sendCell c j) 0 ∅ 0)
    ∗ bigSep Finset.univ fun j => atPos ER (recvCell c j) 0 ∅ 0)
/-- What the other devices owe device `c`. -/
def dues (c : Dev nD) : sProp 𝕄 :=
  iprop(cred (tallyAt (barCell c) () (15 - c.val)) ∗ bigSep Finset.univ fun j : Fin 15 => onlyIf (j.val < c.val) (cred (tallyAt (recvCell c j) () N)))
/-- What device `c` starts with. -/
def start (c : Dev nD) : sProp 𝕄 :=
  iprop((∃ K, records m ρ K ∗ positions c ∗ payToks c) ∗ dues c ∗ levAts L lv)

/-- Before the point: the start, and the two scratch buffers at any contents. -/
def Φ₀ (c : Dev nD) : sProp 𝕄 := iprop(start m ρ c ∗ (∃ g, sndPts c g) ∗ ∃ f, rcvPts c f)
/-- After it: every cell closed, and the two buffers. -/
def Φ₁ (c : Dev nD) : sProp 𝕄 :=
  iprop(semVal (barCell c) 0 ∗ (bigSep Finset.univ fun j => semVal (sendCell c j) 0) ∗ (bigSep Finset.univ fun j => semVal (recvCell c j) 0)
    ∗ (∃ g, sndPts c g) ∗ ∃ f, rcvPts c f)

/-- The arrays, the staged blocks and what is held at each point, for the pipeline. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => OSig c 15
    | ⟨_ + 1, _⟩ => 0

/-- Two families with a condition on the left one, joined. -/
theorem onlyIf_sep (p : Prop) [Decidable p] (P Q : sProp 𝕄) : onlyIf p iprop(P ∗ Q) = iprop(onlyIf p P ∗ onlyIf p Q) := by
  by_cases h : p
  · rw [onlyIf_pos h, onlyIf_pos h, onlyIf_pos h]
  · rw [onlyIf_neg h, onlyIf_neg h, onlyIf_neg h, emp_sep_eq]

/-- A slot that is handed over with the signals leaves its credit for it: the receive buffer's slots go one way or the other. -/
theorem split_slot (p : Prop) [Decidable p] (P C : sProp 𝕄) : iprop(onlyIf p C ∗ P) = iprop(onlyIf p P ∗ if p then C else P) := by
  by_cases h : p
  · rw [onlyIf_pos h, onlyIf_pos h, if_pos h]; exact equiv_iff.mp ⟨BI.sep_comm, BI.sep_comm⟩
  · rw [onlyIf_neg h, onlyIf_neg h, if_neg h]

/-- The start, the buffers and the debts make up what the body begins with. -/
theorem pre_intro (c : Dev nD) (f : Buf (Elt F) ((c : Thread nD τ).loc cc0_scratch1)) :
    iprop((positions c ∗ payToks c ∗ dues c ∗ levAts L lv) ∗ owing c (OSig c 15) ∗ (∃ g, sndPts c g) ∗ rcvPts c f ∗ xPts m ρ c ∗ ∃ g, oPts c g)
      ⊢ BodyPre m ρ c f := by
  have e : iprop((bigSep Finset.univ fun j : Fin 15 => (onlyIf (j.val < c.val) (cred (tallyAt (recvCell c j) () N)) : sProp 𝕄)) ∗ rcvPts c f)
      = iprop((bigSep Finset.univ fun j : Fin 15 => onlyIf (j.val < c.val) (slotPts c j f))
          ∗ bigSep Finset.univ fun j : Fin 15 => if j.val < c.val then cred (tallyAt (recvCell c j) () N) else slotPts c j f) := by
    unfold rcvPts
    rw [slots_eq, ← bigSep_sep', ← bigSep_sep']
    exact bigSep_congr fun j _ => split_slot _ _ _
  unfold BodyPre positions payToks dues
  simp only [onlyIf_sep, bigSep_sep']
  iintro ⟨⟨⟨HaB, HaS, HaR⟩, ⟨HtB, HtS, HtR⟩, ⟨HcB, HcR⟩, Hlev⟩, HO, Hg, Hf, Hx, Ho⟩
  ihave Hs := (Entails.of_eq e) $$ [HcR Hf]
  · isplitl [HcR] <;> iassumption
  icases Hs with ⟨Hs1, Hs2⟩
  isplitl [HO]; · iexact HO
  isplitl [HtB Hs1]
  · isplitl [HtB] <;> iassumption
  isplitl [HtS HtR]
  · isplitl [HtS] <;> iassumption
  isplitl [HaR Hs2]
  · isplitl [HaR] <;> iassumption
  isplitl [HaS]; · iexact HaS
  isplitl [HaB]; · iexact HaB
  isplitl [HcB]; · iexact HcB
  isplitl [Hlev]; · iexact Hlev
  isplitl [Hg]; · iexact Hg
  isplitl [Hx]; · iexact Hx
  iexact Ho

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer holding `X`, as the pipeline states it. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pointPre (c : Dev nD) : sProp 𝕄 :=
  iprop(Φ₀ m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
def pointPost (c : Dev nD) : sProp 𝕄 :=
  iprop(Φ₁ c ∗ (dats m ρ 0 c).owesAt () t0_0.succ ∗ staged c cc0_stg0_0 (xstg m ρ c) ∗ staged c cc0_stg1_0 (outAt m ρ c))

/-- What the body leaves is what the pipeline wants after the point. -/
theorem post_elim (c : Dev nD) (f : Buf (Elt F) ((c : Thread nD τ).loc cc0_scratch1)) : BodyPost m ρ c f ⊢ pointPost m ρ c := by
  unfold BodyPost pointPost Φ₁ Dat.owesAt Pipeline.owesWithin owing xPts oPts
  rw [show (dats m ρ 0 c).owed t0_0.succ = 0 from rfl]
  iintro ⟨⟨%W, HO⟩, HzB, HzS, HzR, Hg, Hf, Hx, Ho⟩
  isplitl [HzB HzS HzR Hg Hf]
  · isplitl [HzB]; · iexact HzB
    isplitl [HzS]; · iexact HzS
    isplitl [HzR]; · iexact HzR
    isplitl [Hg]
    · iexists _; iexact Hg
    · iexists _; iexact Hf
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The body takes the grid point of device `c` from before to after. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = _ from funext bigSep_W0]
  simp only [owns_whole_eq]
  show pointPre m ρ c ⊢ Wp c (cc0_body xM (Memref.isWhole_whole _) oM (Memref.isWhole_whole _) sM (Memref.isWhole_whole _) rM (Memref.isWhole_whole _) cc0_scratch2 cc0_scratch3)
    (fun _ => pointPost m ρ c)
  unfold pointPre Φ₀ start
  iintro ⟨⟨⟨⟨%K, HK, Ha, Ht⟩, Hd, Hlev⟩, Hg, ⟨%f, Hf⟩⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = OSig c 15 from rfl]
  iapply (BIBase.Entails.trans (body_wp m ρ K c f) (wp_mono _ _ _ fun _ => post_elim m ρ c f))
  isplitl [HK]; · iexact HK
  iapply (pre_intro m ρ c f)
  isplitl [Ha Ht Hd Hlev]
  · isplitl [Ha]; · iexact Ha
    isplitl [Ht]; · iexact Ht
    isplitl [Hd]; · iexact Hd
    iexact Hlev
  isplitl [HO]; · unfold owing; iexists W; iexact HO
  isplitl [Hg]; · iexact Hg
  isplitl [Hf]; · iexact Hf
  isplitl [Hx]; · unfold xPts; iexact Hx
  iexists g1; unfold oPts; iexact Hout

end Cert.Exchange

end
-- ==== Proof.Launch.lean ====
/-
# The launch

The ghost state is made once for all devices: one round on every cell of the exchange. The tokens of a cell's duties go
to the devices that pay them, and what the devices owe one another at the start is the credit their waits need.
-/
module

public import proofs.«01_k».proof.Proof.Point
public import proofs.«01_k».proof.Proof.Gen.KernelIdeal.Launch
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide

theorem share_eq (c : Dev nD) (w : Fin cfg0.W) : (dats (F := F) m ρ 0 c).share w = fullShare := by unfold Dat.share; split <;> rfl

theorem csem_injective : Function.Injective csem := fun k k' h => by
  have := congrArg kind h
  rw [kind_csem, kind_csem] at this
  exact Option.some.inj this
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
theorem kcell_eq_iff {p p' : Dev nD × CK} : kcell p = kcell p' ↔ p = p' := kcell_injective.eq_iff

def allCells : Finset (GSem nD τ sig) := Finset.univ.map ⟨kcell, kcell_injective⟩

/-- The three cells that have a duty named `j` on device `c`. -/
def atOffset (j : Fin 15) : Fin 3 → CK := ![.inl (), .inr (.inl j), .inr (.inr j)]
theorem atOffset_injective (j : Fin 15) : Function.Injective (atOffset j) := by revert j; decide

abbrev tokOf (p : Fin 3 × (Dev nD × Fin 15)) : GSem nD τ sig × ℕ × Fin 15 := (kcell (p.2.1, atOffset p.2.2 p.1), 0, p.2.2)
theorem tokOf_injective : Function.Injective tokOf := by
  rintro ⟨k, c, j⟩ ⟨k', c', j'⟩ h
  have hj : j = j' := congrArg (fun x : GSem nD τ sig × ℕ × Fin 15 => x.2.2) h
  subst hj
  have h1 := kcell_injective (congrArg Prod.fst h)
  have hc : c = c' := congrArg Prod.fst h1
  have hk : k = k' := atOffset_injective j (congrArg Prod.snd h1)
  rw [hc, hk]
def allToks : Finset (GSem nD τ sig × ℕ × Fin 15) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  bigSep Finset.univ fun j : Fin 15 => iprop(dutyTok ER (barCell c) 0 j ∗ dutyTok ER (sendCell c j) 0 j ∗ dutyTok ER (recvCell c j) 0 j)

/-- What the launch deals device `c`: for each of its cells the round's state, the position and that round 0 is reached,
    and the tokens. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)
/-- What the devices make of it together. -/
def G' (c : Dev nD) : sProp 𝕄 := iprop(∃ K, records m ρ K ∗ positions c ∗ payToks c)

theorem bigSep_fin3 (Φ : Fin 3 → sProp 𝕄) : bigSep Finset.univ Φ = iprop(Φ 0 ∗ Φ 1 ∗ Φ 2) :=
  bigSep_univ_eq_bigSepL [0, 1, 2] (by decide) (by decide) Φ
/-- A family over the cells of a device: the barrier, the send cells and the receive cells. -/
theorem bigSep_CK (Φ : CK → sProp 𝕄) :
    bigSep Finset.univ Φ = iprop(Φ (.inl ()) ∗ (bigSep Finset.univ fun j => Φ (.inr (.inl j))) ∗ bigSep Finset.univ fun j => Φ (.inr (.inr j))) := by
  rw [bigSep_univ_sum, bigSep_univ_sum, show (Finset.univ : Finset Unit) = {()} from rfl, bigSep_singleton]
  rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_fin3]
    unfold toks
    simp only [bigSep_univ_prod, bigSep_sep']
    rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' counters -/

theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun j => semVal (recvCell c j) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing -/

/-- A condition drops what it does not need. -/
theorem onlyIf_intro (p : Prop) [Decidable p] (P : sProp 𝕄) : P ⊢ onlyIf p P := by
  by_cases h : p
  · rw [onlyIf_pos h]
  · rw [onlyIf_neg h]; iintro -; iempintro

/-- A family over devices and offsets, moved along the offsets. -/
theorem bigSep_shift (Φ : Dev nD → Fin 15 → sProp 𝕄) :
    (bigSep Finset.univ fun c => bigSep Finset.univ fun j => Φ c j) = bigSep Finset.univ fun c => bigSep Finset.univ fun j => Φ (up c j) j := by
  rw [← bigSep_univ_prod (fun p : Dev nD × Fin 15 => Φ p.1 p.2), bigSep_univ_equiv shift, bigSep_univ_prod]; rfl
theorem bigSep_unshift (Φ : Dev nD → Fin 15 → sProp 𝕄) :
    (bigSep Finset.univ fun c => bigSep Finset.univ fun j => Φ c j) = bigSep Finset.univ fun c => bigSep Finset.univ fun j => Φ (dn c j) j := by
  rw [← bigSep_univ_prod (fun p : Dev nD × Fin 15 => Φ p.1 p.2), bigSep_univ_equiv shift.symm, bigSep_univ_prod]; rfl

/-- The tokens go to the devices that pay the duties: a barrier's `j` to `up c j`, a receive cell's to `dn c j`. -/
theorem toks_dealt : (bigSep Finset.univ fun c : Dev nD => (toks c : sProp 𝕄)) ⊢ bigSep Finset.univ fun c : Dev nD => payToks c := by
  have e : (bigSep Finset.univ fun c : Dev nD => (toks c : sProp 𝕄))
      = bigSep Finset.univ fun c : Dev nD => iprop((bigSep Finset.univ fun j : Fin 15 => dutyTok ER (barCell (dn c j)) 0 j)
        ∗ bigSep Finset.univ fun j : Fin 15 => iprop(dutyTok ER (sendCell c j) 0 j ∗ dutyTok ER (recvCell (up c j) j) 0 j)) := by
    unfold toks
    simp only [bigSep_sep']
    rw [bigSep_unshift (fun c j => dutyTok ER (barCell c) 0 j), bigSep_shift (fun c j => dutyTok ER (recvCell c j) 0 j)]
  rw [e]
  unfold payToks
  exact bigSep_mono fun c _ => sep_mono (bigSep_mono fun j _ => onlyIf_intro _ _) (bigSep_mono fun j _ => onlyIf_intro _ _)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CK → ℕ) (c : Dev nD) : iprop(records m ρ K ∗ positions c ∗ payToks c) ⊢ G' m ρ c := by
  unfold G'; iintro H; iexists K; iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_dealt (F := F)) $$ Htok
  iapply (bigSep_with_persistent (R := records m ρ K) fun c _ => G'_intro m ρ K c)
  isplitr
  · unfold records; isplitl; · iexact HI
    iexact HR
  · iapply (Entails.of_eq (bigSep_sep' Finset.univ (positions (F := F)) payToks).symm)
    isplitl [Hat]
    · have e : (bigSep Finset.univ fun c : Dev nD => bigSep Finset.univ fun k : CK => (atPos ER (kcell (c, k)) 0 ∅ 0 : sProp 𝕄))
          = bigSep Finset.univ (positions (F := F)) := bigSep_congr fun c _ => by unfold positions; rw [bigSep_CK]
      rw [← e]; iexact Hat
    · iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A tally on a cell of the exchange, read at a cell of the exchange. -/
theorem tally_cell (p p' : Dev nD × CK) (n : ℕ) : tallyAt (kcell p) () n (kcell p') () = if p' = p then n else 0 := by
  rw [tallyAt_apply]
  by_cases h : p' = p
  · subst h; rw [if_pos ⟨rfl, rfl⟩, if_pos rfl]
  · rw [if_neg (fun h' => h (kcell_injective h'.1)), if_neg h]

/-- A conditional tally, read at a cell of the exchange. -/
theorem if_tally_cell (p : Prop) [Decidable p] (x x' : Dev nD × CK) (n : ℕ) :
    (if p then tallyAt (kcell x) () n else 0 : CellTallies nD τ sig Unit) (kcell x') () = if p ∧ x' = x then n else 0 := by
  by_cases h : p
  · rw [if_pos h, tally_cell]
    by_cases h' : x' = x
    · rw [if_pos h', if_pos ⟨h, h'⟩]
    · rw [if_neg h', if_neg fun q => h' q.2]
  · rw [if_neg h, if_neg fun q => h q.1]; rfl

/-- What device `d` owes a cell of the exchange at the start. -/
theorem owed_cell (d : Dev nD) (x : Dev nD × CK) :
    OSig d 15 (kcell x) () = (∑ j : Fin 15, if d.val + j.val + 1 < 16 ∧ x = (up d j, .inr (.inr j)) then N else 0)
      + ∑ j : Fin 15, if j.val < d.val ∧ x = (dn d j, .inl ()) then 1 else 0 := by
  have e1 : (∑ j ∈ lo 15, if d.val + j.val + 1 < 16 then tallyAt (recvCell (up d j) j) () N else 0 : CellTallies nD τ sig Unit) (kcell x) ()
      = ∑ j : Fin 15, if d.val + j.val + 1 < 16 ∧ x = (up d j, .inr (.inr j)) then N else 0 := by
    rw [lo_all, Finset.sum_apply, Finsupp.finset_sum_apply]
    exact Finset.sum_congr rfl fun j _ => if_tally_cell _ _ _ _
  have e2 : (∑ j ∈ lo 15, if j.val < d.val then tallyAt (barCell (dn d j)) () 1 else 0 : CellTallies nD τ sig Unit) (kcell x) ()
      = ∑ j : Fin 15, if j.val < d.val ∧ x = (dn d j, .inl ()) then 1 else 0 := by
    rw [lo_all, Finset.sum_apply, Finsupp.finset_sum_apply]
    exact Finset.sum_congr rfl fun j _ => if_tally_cell _ _ _ _
  rw [← e1, ← e2]; rfl

/-- The devices after `c`, counted by the offset. -/
theorem count_after : ∀ c : Dev nD, ∑ d : Dev nD, ∑ j : Fin 15, (if j.val < d.val ∧ c = dn d j then 1 else 0) = 15 - c.val := by
  decide +kernel

/-- Every device after `c` owes its barrier one unit. -/
theorem sum_bar (c : Dev nD) : ∑ d : Dev nD, OSig d 15 (barCell c) () = 15 - c.val := by
  have e (d : Dev nD) : OSig d 15 (barCell c) () = ∑ j : Fin 15, if j.val < d.val ∧ c = dn d j then 1 else 0 := by
    have z : (∑ j : Fin 15, if d.val + j.val + 1 < 16 ∧ ((c, .inl ()) : Dev nD × CK) = (up d j, .inr (.inr j)) then N else 0) = 0 :=
      Finset.sum_eq_zero fun j _ => if_neg fun h => by cases congrArg Prod.snd h.2
    rw [owed_cell, z, zero_add]
    refine Finset.sum_congr rfl fun j _ => ?_
    simp only [Prod.mk.injEq, and_true]
  rw [Finset.sum_congr rfl fun d _ => e d]
  exact count_after c

/-- Only `dn c j` owes the receive cell `j` of `c`, one copy's credit. -/
theorem sum_recv (c : Dev nD) (j : Fin 15) (h : j.val < c.val) : ∑ d : Dev nD, OSig d 15 (recvCell c j) () = N := by
  have e (d : Dev nD) : OSig d 15 (recvCell c j) () = if d = dn c j then N else 0 := by
    have z : (∑ i : Fin 15, if i.val < d.val ∧ ((c, .inr (.inr j)) : Dev nD × CK) = (dn d i, .inl ()) then 1 else 0) = 0 :=
      Finset.sum_eq_zero fun i _ => if_neg fun h => by cases congrArg Prod.snd h.2
    rw [owed_cell, z, add_zero, Finset.sum_eq_single j]
    · by_cases hd : d = dn c j
      · rw [if_pos hd, if_pos]
        subst hd
        exact ⟨dn_sends.mpr h, by rw [up_dn]⟩
      · rw [if_neg hd, if_neg]
        exact fun h' => hd (by rw [show c = up d j from congrArg Prod.fst h'.2, dn_up])
    · intro i _ hi
      refine if_neg fun h' => hi ?_
      have := congrArg Prod.snd h'.2
      exact (Sum.inr.inj (Sum.inr.inj this)).symm
    · exact fun h' => absurd (Finset.mem_univ _) h'
  rw [Finset.sum_congr rfl fun d _ => e d, Finset.sum_ite_eq' Finset.univ (dn c j) fun _ => N, if_pos (Finset.mem_univ _)]

abbrev credAt (c : Dev nD) (k : CK) : CellTallies nD τ sig Unit :=
  tallyOn (kcell (c, k)) (launchCredit (Pipeline.owing fun d => OSig d 15) 0 (kcell (c, k)))

theorem launch_bar (c : Dev nD) : credAt c (.inl ()) = tallyAt (barCell c) () (15 - c.val) := by
  unfold credAt tallyAt; refine congrArg _ (Finsupp.ext fun u => ?_); cases u
  rw [Pipeline.launchCredit_owing, Finsupp.single_eq_same, sum_bar]
theorem launch_recv (c : Dev nD) (j : Fin 15) (h : j.val < c.val) : credAt c (.inr (.inr j)) = tallyAt (recvCell c j) () N := by
  unfold credAt tallyAt; refine congrArg _ (Finsupp.ext fun u => ?_); cases u
  rw [Pipeline.launchCredit_owing, Finsupp.single_eq_same, sum_recv c j h]

/-- The launch credits of a device are its dues. -/
theorem dues_intro (c : Dev nD) : (Pipeline.launchCred (fun d => OSig d 15) c : sProp 𝕄) ⊢ dues c := by
  have h1 : (Pipeline.launchCred (fun d => OSig d 15) c : sProp 𝕄) ⊢ bigSep Finset.univ fun k : CK => cred (credAt c k) := by
    unfold Pipeline.launchCred
    refine BIBase.Entails.trans (bigSep_subset (Finset.subset_univ (Finset.univ.map ⟨csem, csem_injective⟩))) ?_
    rw [bigSep_map]; exact BI.Entails.refl _
  refine BIBase.Entails.trans h1 ?_
  rw [bigSep_CK, launch_bar]
  unfold dues
  iintro ⟨HB, -, HR⟩
  isplitl [HB]; · iexact HB
  have e : (bigSep Finset.univ fun j : Fin 15 => (cred (credAt c (.inr (.inr j))) : sProp 𝕄))
      ⊢ bigSep Finset.univ fun j : Fin 15 => onlyIf (j.val < c.val) (cred (tallyAt (recvCell c j) () N)) :=
    bigSep_mono fun j _ => by
      by_cases h : j.val < c.val
      · rw [onlyIf_pos h, launch_recv c j h]; exact BI.Entails.refl _
      · rw [onlyIf_neg h, ← onlyIf_neg h (cred (credAt c (.inr (.inr j))))]; exact onlyIf_intro _ _
  iapply e; iexact HR

/-! ## The run -/

theorem start_intro (c : Dev nD) :
    iprop(Pipeline.unscopedRestP Pipeline.Prefetch.none cfg0.spec c (fun b => m ((c : Thread nD τ).loc b)) ∗ levAts L lv
        ∗ Pipeline.launchCred (fun d => OSig d 15) c ∗ prngReg c (ρ c) ∗ G' m ρ c)
      ⊢ |={Set.univ}=> iprop(start m ρ c ∗ emp) := by
  iintro ⟨-, Hlev, Hcr, -, HG⟩
  ihave Hc := (dues_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sndPts rcvPts
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ sndPts rcvPts
  iintro ⟨HzB, HzS, HzV, Hr⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the run leaves in the array of window `w`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, the sixteen devices' exchange ends, with each array at its final contents and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => OSig c 15) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.KernelValue.lean ====
/-
# The kernel's value

Over the extended reals: what a device sends is the product of the rows of its block, and what it stores is, row by row, the
cumulative product of its block times the products of the blocks before it.
-/
module

public import proofs.«01_k».proof.Proof.Combine
public import proofs.«01_k».proof.Proof.Launch

@[expose] public section

noncomputable section

namespace Cert.Exchange

open Cert.KernelIdeal Cert.KernelIdeal.Gen

open Idealize.ShloMosaic
open Idealize.ShloMosaic.TcCoe

/-- The row a device sends: the product of the rows of its block. -/
theorem product_row (x : Vec Ideal S1024x512 .f32) (y : Fin 512) :
    k0_pay3 (k0_pay1 x) (k0_pay2 x) (ValueIdx.ix2 (0 : Fin 1) y) = leading (n := 1024) x 1024 y := by
  unfold k0_pay3 k0_pay2 k0_pay1
  rw [shapeCast_self, shapeCast_self]
  refine (leading_row _ y).symm.trans ?_
  refine (leading_halve (n := 1) rfl _ _ _ y).trans ?_
  refine (leading_halve (n := 2) rfl _ _ _ y).trans ?_
  refine (leading_halve (n := 4) rfl _ _ _ y).trans ?_
  refine (leading_halve (n := 8) rfl _ _ _ y).trans ?_
  refine (leading_halve (n := 16) rfl _ _ _ y).trans ?_
  refine (leading_halve (n := 32) rfl _ _ _ y).trans ?_
  refine (leading_halve (n := 64) rfl _ _ _ y).trans ?_
  refine (leading_halve (n := 128) rfl _ _ _ y).trans ?_
  refine (leading_halve (n := 256) rfl _ _ _ y).trans ?_
  exact leading_halve (n := 512) rfl _ _ _ y

/-- The cumulative product of a block. -/
theorem cumulative_rows (x : Vec Ideal S1024x512 .f32) (r : Fin 1024) (y : Fin 512) :
    k0_pay6 (k0_pay5 (k0_pay4 x)) (ValueIdx.ix2 r y) = leading (n := 1024) x (r.val + 1) y := by
  rw [← window_full (n := 1024) x r.isLt y]
  unfold k0_pay6 k0_pay5 k0_pay4
  rw [shapeCast_self]
  refine window_step (d := 512) (e := 512) rfl x _ _ _ ?_ r y
  refine window_step (d := 256) (e := 768) rfl x _ _ _ ?_
  refine window_step (d := 128) (e := 896) rfl x _ _ _ ?_
  refine window_step (d := 64) (e := 960) rfl x _ _ _ ?_
  refine window_step (d := 32) (e := 992) rfl x _ _ _ ?_
  refine window_step (d := 16) (e := 1008) rfl x _ _ _ ?_
  refine window_step (d := 8) (e := 1016) rfl x _ _ _ ?_
  refine window_step (d := 4) (e := 1020) rfl x _ _ _ ?_
  refine window_step (d := 2) (e := 1022) rfl x _ _ _ ?_
  refine window_step (d := 1) (e := 1023) rfl x _ _ _ ?_
  exact fun r y => ((window_one (n := 1024) x r.val y).trans (entry_of_lt (n := 1024) x r.isLt y)).symm

/-- The received rows, those not for use replaced by ones, with one more row of ones. -/
theorem received_entry (c : Dev nD) (v : Vec Ideal S15x1x512 .f32) (j : ℕ) (y : Fin 512) :
    entry (n := 16) (k0_pay7 (place c) v) j y
      = if h : j < c.val then v (ValueIdx.ix3 (⟨j, by have := c.isLt; change c.val < 16 at this; omega⟩ : Fin 15) (0 : Fin 1) y) else 1 := by
  by_cases hj : j < 16
  · rw [entry_of_lt _ hj]
    unfold k0_pay7
    by_cases hl : j < 15
    · refine (concatenate_pair_apply_left (s₁ := S15x512) (s₂ := S1x512) 0 _ _ _ (ValueIdx.ix2 (⟨j, hj⟩ : Fin 16) y) rfl (ValueIdx.ix2 (⟨j, hl⟩ : Fin 15) y) (fun b => ?_)).trans ?_
      · fin_cases b <;> rfl
      · refine (masked_apply c v ⟨j, hl⟩ y).trans ?_
        by_cases h : j < c.val
        · rw [dif_pos h]; exact if_pos h
        · rw [dif_neg h]; exact (if_neg h).trans Ideal.ofBits_one_f32
    · have e : j = 15 := by omega
      subst e
      rw [dif_neg (show ¬ 15 < c.val by have := c.isLt; change c.val < 16 at this; omega)]
      refine (concatenate_pair_apply_right (s₁ := S15x512) (s₂ := S1x512) 0 _ _ _ (ValueIdx.ix2 (⟨15, hj⟩ : Fin 16) y) rfl rfl (ValueIdx.ix2 (0 : Fin 1) y) (fun b hb => ?_) ?_).trans Ideal.ofBits_one_f32
      · fin_cases b
        · exact absurd rfl hb
        · rfl
      · rfl
  · rw [dif_neg (show ¬ j < c.val by have := c.isLt; change c.val < 16 at this; omega)]
    exact dif_neg hj

/-- What is stored: the row of the cumulative product times the product of the sixteen rows. -/
theorem stored_row (p : FVec Ideal S1024x512 .f32) (v2 : BitVec 32) (v : Vec Ideal S15x1x512 .f32) (r : Fin 1024) (y : Fin 512) :
    k0_pay9 p (k0_pay7 v2 v) (k0_pay8 v2 v) (ValueIdx.ix2 r y) = p (ValueIdx.ix2 r y) * leading (n := 16) (k0_pay7 v2 v) 16 y := by
  unfold k0_pay9 k0_pay8
  rw [ValueIdx.mulf_apply]
  congr 1
  refine (ValueIdx.broadcastTo_1b_ab_apply _ _ r y).trans ?_
  refine (leading_row _ y).symm.trans ?_
  refine (leading_halve (n := 1) rfl _ _ _ y).trans ?_
  refine (leading_halve (n := 2) rfl _ _ _ y).trans ?_
  refine (leading_halve (n := 4) rfl _ _ _ y).trans ?_
  exact leading_halve (n := 8) rfl _ _ _ y

variable (m : (ℓ : Loc nD τ sig) → Buf (Elt Ideal) ℓ) (ρ : Dev nD → PrngReg)

/-- Device `c`'s result, from the blocks of the devices up to it. -/
theorem outAt_apply (c : Dev nD) (r : Fin 1024) (y : Fin 512) :
    outAt m ρ c (ValueIdx.ix2 r y)
      = leading (n := 1024) (xstg m ρ c) (r.val + 1) y
        * ∏ d ∈ Finset.range c.val, if h : d < 16 then leading (n := 1024) (xstg m ρ ⟨d, h⟩) 1024 y else 1 := by
  unfold outAt outFrom
  rw [stored_row, cumulative_rows]
  congr 1
  rw [← prod_backwards _ (show c.val ≤ 16 from c.isLt.le)]
  refine Finset.prod_congr rfl fun j _ => (received_entry c _ j y).trans ?_
  have hc : c.val < 16 := c.isLt
  by_cases h : j < c.val
  · rw [dif_pos h, if_pos h, dif_pos (show c.val - 1 - j < 16 by omega)]
    refine (if_pos h).trans ?_
    refine (product_row _ y).trans ?_
    have e : dn c ⟨j, by omega⟩ = (⟨c.val - 1 - j, by omega⟩ : Dev nD) := Fin.ext ((dn_val (j := ⟨j, by omega⟩) h).trans (by show c.val - j - 1 = c.val - 1 - j; omega))
    exact congrArg (fun d => leading (n := 1024) (xstg m ρ d) 1024 y) e
  · rw [dif_neg h, if_neg h]

/-- The one block of the argument's window is the argument. -/
theorem xstg_eq (c : Dev nD) : xstg m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- The result array of device `c` after the launch. -/
theorem finalA_out (c : Dev nD) : finalA m ρ c (1 : Fin 2) = outAt m ρ c := by
  have h : (win0_1.blk (0 : Fin 1)).view.read (Elt Ideal) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt Ideal) main_v1 hz (fun a => by fin_cases a <;> decide) _).symm.trans h

end Cert.Exchange

end
-- ==== Proof.Equation.lean ====
/-
# The kernel's result is the reference's

Where every device's argument is its block of one array, every device's result is its block of the cumulative product of
that array.
-/
module

public import proofs.«01_k».proof.Proof.KernelValue
public import Idealize.ShloMosaic.Lib.Layout

@[expose] public section

noncomputable section

namespace Cert.Exchange

open Cert.KernelIdeal Cert.KernelIdeal.Gen

open Idealize.ShloMosaic
open Idealize.ShloMosaic.TcCoe

/-- Where row `r` and column `y` of block `c` lie in the whole array. -/
theorem block_idx (h : Layout.Tiles ⟨2, ![1024, 512]⟩ ⟨2, ![16384, 512]⟩ 0 16) (c : Fin 16) (r : Fin 1024) (y : Fin 512) :
    h.idx c (ValueIdx.ix2 r y) = ValueIdx.ix2 (⟨c.val * 1024 + r.val, by omega⟩ : Fin 16384) y := by
  funext b
  fin_cases b <;> rfl

variable (m : (ℓ : Loc nD τ sig) → Buf (Elt Ideal) ℓ) (ρ : Dev nD → PrngReg)

/-- Device `c`'s result is block `c` of the cumulative product of the array whose blocks are the arguments. -/
theorem outAt_block (X : Rows 16384)
    (h : ∀ c : Dev nD, m ((c.tc : Thread nD τ).loc main_arg0) = Layout.block ⟨2, ![1024, 512]⟩ ⟨2, ![16384, 512]⟩ 0 16 c X) (c : Dev nD) :
    outAt m ρ c = Layout.block ⟨2, ![1024, 512]⟩ ⟨2, ![16384, 512]⟩ 0 16 c (cumulative X) := by
  have hx : ∀ (d : Fin 16) (r : Fin 1024) (y : Fin 512), xstg m ρ d (ValueIdx.ix2 r y) = entry X (d.val * 1024 + r.val) y := fun d r y => by
    have hd : d.val * 1024 + r.val < 16384 := by omega
    rw [xstg_eq, h d, entry_of_lt X hd]
    exact congrArg X (block_idx (by decide) d r y)
  funext i
  rw [ValueIdx.eq_ix2 i]
  refine (outAt_apply m ρ c (i 0) (i 1)).trans ?_
  refine Eq.trans ?_ (congrArg (cumulative X) (block_idx (by decide) c (i 0) (i 1))).symm
  refine Eq.trans ?_ (leading_block X (xstg m ρ) hx c ((i 0).val + 1) (i 0).isLt (i 1)).symm
  rw [leading_before X (xstg m ρ) hx (i 1) c.val c.isLt.le]
  exact mul_comm _ _

end Cert.Exchange

end
-- ==== Proof.lean ====
/-
# The certificate

The claims of `Cert.Claim` from the modules under Proof/: the kernel's run (Launch.lean `run_main`), its value
(KernelValue.lean, Equation.lean) and the reference's run (RefValue.lean `run_value`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The two printed kernels have the same text, so the same bodies. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- The two printed kernels' tables of bodies and pipelines are the same. -/
theorem defs_eq {F : FTy → Type} [FloatOps F] : Cert.Kernel.defs (F := F) = Cert.KernelIdeal.defs (F := F) :=
  congrArg (Pipeline.defs Cert.KernelIdeal.pcfgs) bodies_eq

/-- The kernel over words terminates, leaves its argument as it was, and ends with every semaphore at zero. -/
theorem frame_kernel : Cert.quiescent_Kernel := fun m ρ _ => by
  rw [defs_eq]
  exact (θ_run Cert.KernelIdeal.defs _ _).mono
    (fun _ h => ⟨fun c => (h.1 c (0 : Fin 2)).trans (Cert.Exchange.finalA_x (F := Bits) m ρ c), h.2⟩)
    (Cert.Exchange.run_main (F := Bits) m ρ)

/-- The same of the kernel over the extended reals. -/
theorem frame_kernelIdeal : Cert.quiescent_KernelIdeal := fun m ρ _ =>
  (θ_run Cert.KernelIdeal.defs _ _).mono (fun _ h => ⟨fun c => (h.1 c (0 : Fin 2)).trans (Cert.Exchange.finalA_x m ρ c), h.2⟩)
    (Cert.Exchange.run_main (F := Ideal) m ρ)

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Exchange.Ref.run_value m ρ)

/-- If every device holds its block of the reference's argument, then every device ends with its block of the reference's
    result. -/
theorem algebraic : Cert.algebraic_KernelIdeal_ReferenceIdeal := fun m ρ m' ρ' _ hx =>
  ⟨Cert.Exchange.cumulative (m' (((0 : Dev Cert.ReferenceIdeal.nD).tc : Thread _ Cert.ReferenceIdeal.τ).loc Cert.ReferenceIdeal.main_arg0)),
    (θ_run Cert.KernelIdeal.defs _ _).mono
      (fun _ h c => ⟨((h.1 c (1 : Fin 2)).trans (Cert.Exchange.finalA_out m ρ c)).trans (Cert.Exchange.outAt_block m ρ _ hx c),
        (h.1 c (0 : Fin 2)).trans (Cert.Exchange.finalA_x m ρ c)⟩)
      (Cert.Exchange.run_main (F := Ideal) m ρ),
    (θ_run Cert.ReferenceIdeal.defs _ _).mono (fun _ h => h 0) (Cert.Exchange.Ref.run_value m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
